-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log10000" .f32 0x41135D8E#32 ((Real.log 10000 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .f32) (main_arg1 : FVec F S512x256 .f32) (main_arg2 : FVec F S512x256 .f32) (main_arg3 : FVec F S512x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_finite_ReferenceIdeal.lean ====
abbrev S2x2048x512 : Shape := ⟨3, ![2, 2048, 512]⟩
abbrev S512x256 : Shape := ⟨2, ![512, 256]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x2048x512 .f32) (main_arg1 : FVec F S512x256 .f32) (main_arg2 : FVec F S512x256 .f32) (main_arg3 : FVec F S512x256 .f32) (main_arg4 : FVec F S256x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S256x512 : Shape := ⟨2, ![256, 512]⟩
abbrev S16x256x512 : Shape := ⟨3, ![16, 256, 512]⟩
abbrev S8x4 : Shape := ⟨2, ![8, 4]⟩
abbrev S7x4 : Shape := ⟨2, ![7, 4]⟩
abbrev S256x256 : Shape := ⟨2, ![256, 256]⟩
abbrev S1x256x512 : Shape := ⟨3, ![1, 256, 512]⟩
abbrev S_ : Shape := ⟨0, ![]⟩
abbrev S128x1 : Shape := ⟨2, ![128, 1]⟩
abbrev S128x64 : Shape := ⟨2, ![128, 64]⟩
abbrev S1x1 : Shape := ⟨2, ![1, 1]⟩
abbrev S1x64x512 : Shape := ⟨3, ![1, 64, 512]⟩
abbrev S64x512 : Shape := ⟨2, ![64, 512]⟩
abbrev S1x128x64 : Shape := ⟨3, ![1, 128, 64]⟩
abbrev S128x128 : Shape := ⟨2, ![128, 128]⟩
abbrev S128 : Shape := ⟨1, ![128]⟩
abbrev S256x64 : Shape := ⟨2, ![256, 64]⟩
abbrev S128x256 : Shape := ⟨2, ![128, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S16x256x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_75 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_74 : BitVec 32 := 1#32
  let v183 : BitVec 32 := Scalar.muli v79 c1_i32_74
  let v184 : BitVec 32 := Scalar.addi c0_i32_75 v183
  v184.toNat
def k0_dev2 (d0 : Dev nD) : Nat :=
  let c0_i32_78 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_77 : BitVec 32 := 1#32
  let v185 : BitVec 32 := Scalar.muli v52 c1_i32_77
  let v186 : BitVec 32 := Scalar.addi c0_i32_78 v185
  v186.toNat
def k0_dev3 (d0 : Dev nD) : Nat :=
  let c0_i32_104 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_103 : BitVec 32 := 1#32
  let v206 : BitVec 32 := Scalar.muli v52 c1_i32_103
  let v207 : BitVec 32 := Scalar.addi c0_i32_104 v206
  v207.toNat
def k0_dev4 (d0 : Dev nD) : Nat :=
  let c0_i32_115 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_114 : BitVec 32 := 1#32
  let v216 : BitVec 32 := Scalar.muli v79 c1_i32_114
  let v217 : BitVec 32 := Scalar.addi c0_i32_115 v216
  v217.toNat
def k0_dev5 (d0 : Dev nD) : Nat :=
  let c0_i32_127 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_126 : BitVec 32 := 1#32
  let v226 : BitVec 32 := Scalar.muli v52 c1_i32_126
  let v227 : BitVec 32 := Scalar.addi c0_i32_127 v226
  v227.toNat
def k0_dev6 (d0 : Dev nD) : Nat :=
  let c0_i32_139 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_138 : BitVec 32 := 1#32
  let v236 : BitVec 32 := Scalar.muli v79 c1_i32_138
  let v237 : BitVec 32 := Scalar.addi c0_i32_139 v236
  v237.toNat
def k0_dev7 (d0 : Dev nD) : Nat :=
  let c0_i32_151 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_150 : BitVec 32 := 1#32
  let v246 : BitVec 32 := Scalar.muli v52 c1_i32_150
  let v247 : BitVec 32 := Scalar.addi c0_i32_151 v246
  v247.toNat
def k0_dev8 (d0 : Dev nD) : Nat :=
  let c0_i32_163 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_162 : BitVec 32 := 1#32
  let v256 : BitVec 32 := Scalar.muli v79 c1_i32_162
  let v257 : BitVec 32 := Scalar.addi c0_i32_163 v256
  v257.toNat
def k0_dev9 (d0 : Dev nD) : Nat :=
  let c0_i32_175 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_174 : BitVec 32 := 1#32
  let v266 : BitVec 32 := Scalar.muli v52 c1_i32_174
  let v267 : BitVec 32 := Scalar.addi c0_i32_175 v266
  v267.toNat
def k0_dev10 (d0 : Dev nD) : Nat :=
  let c0_i32_186 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_185 : BitVec 32 := 1#32
  let v276 : BitVec 32 := Scalar.muli v79 c1_i32_185
  let v277 : BitVec 32 := Scalar.addi c0_i32_186 v276
  v277.toNat
def k0_dev11 (d0 : Dev nD) : Nat :=
  let c0_i32_275 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_274 : BitVec 32 := 1#32
  let v398 : BitVec 32 := Scalar.muli v52 c1_i32_274
  let v399 : BitVec 32 := Scalar.addi c0_i32_275 v398
  v399.toNat
def k0_dev12 (d0 : Dev nD) : Nat :=
  let c0_i32_298 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_297 : BitVec 32 := 1#32
  let v416 : BitVec 32 := Scalar.muli v79 c1_i32_297
  let v417 : BitVec 32 := Scalar.addi c0_i32_298 v416
  v417.toNat
def k0_dev13 (d0 : Dev nD) : Nat :=
  let c0_i32_322 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_321 : BitVec 32 := 1#32
  let v434 : BitVec 32 := Scalar.muli v52 c1_i32_321
  let v435 : BitVec 32 := Scalar.addi c0_i32_322 v434
  v435.toNat
def k0_dev14 (d0 : Dev nD) : Nat :=
  let c0_i32_346 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_345 : BitVec 32 := 1#32
  let v452 : BitVec 32 := Scalar.muli v79 c1_i32_345
  let v453 : BitVec 32 := Scalar.addi c0_i32_346 v452
  v453.toNat
def k0_dev15 (d0 : Dev nD) : Nat :=
  let c0_i32_370 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_369 : BitVec 32 := 1#32
  let v470 : BitVec 32 := Scalar.muli v52 c1_i32_369
  let v471 : BitVec 32 := Scalar.addi c0_i32_370 v470
  v471.toNat
def k0_dev16 (d0 : Dev nD) : Nat :=
  let c0_i32_394 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_393 : BitVec 32 := 1#32
  let v488 : BitVec 32 := Scalar.muli v79 c1_i32_393
  let v489 : BitVec 32 := Scalar.addi c0_i32_394 v488
  v489.toNat
def k0_dev17 (d0 : Dev nD) : Nat :=
  let c0_i32_418 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_417 : BitVec 32 := 1#32
  let v506 : BitVec 32 := Scalar.muli v52 c1_i32_417
  let v507 : BitVec 32 := Scalar.addi c0_i32_418 v506
  v507.toNat
def k0_dev18 (d0 : Dev nD) : Nat :=
  let c0_i32_442 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_441 : BitVec 32 := 1#32
  let v524 : BitVec 32 := Scalar.muli v79 c1_i32_441
  let v525 : BitVec 32 := Scalar.addi c0_i32_442 v524
  v525.toNat
def k0_dev19 (d0 : Dev nD) : Nat :=
  let c0_i32_584 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_583 : BitVec 32 := 1#32
  let v694 : BitVec 32 := Scalar.muli v52 c1_i32_583
  let v695 : BitVec 32 := Scalar.addi c0_i32_584 v694
  v695.toNat
def k0_dev20 (d0 : Dev nD) : Nat :=
  let c0_i32_607 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_606 : BitVec 32 := 1#32
  let v712 : BitVec 32 := Scalar.muli v79 c1_i32_606
  let v713 : BitVec 32 := Scalar.addi c0_i32_607 v712
  v713.toNat
def k0_dev21 (d0 : Dev nD) : Nat :=
  let c0_i32_631 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_630 : BitVec 32 := 1#32
  let v730 : BitVec 32 := Scalar.muli v52 c1_i32_630
  let v731 : BitVec 32 := Scalar.addi c0_i32_631 v730
  v731.toNat
def k0_dev22 (d0 : Dev nD) : Nat :=
  let c0_i32_655 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_654 : BitVec 32 := 1#32
  let v748 : BitVec 32 := Scalar.muli v79 c1_i32_654
  let v749 : BitVec 32 := Scalar.addi c0_i32_655 v748
  v749.toNat
def k0_dev23 (d0 : Dev nD) : Nat :=
  let c0_i32_679 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_678 : BitVec 32 := 1#32
  let v766 : BitVec 32 := Scalar.muli v52 c1_i32_678
  let v767 : BitVec 32 := Scalar.addi c0_i32_679 v766
  v767.toNat
def k0_dev24 (d0 : Dev nD) : Nat :=
  let c0_i32_703 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_702 : BitVec 32 := 1#32
  let v784 : BitVec 32 := Scalar.muli v79 c1_i32_702
  let v785 : BitVec 32 := Scalar.addi c0_i32_703 v784
  v785.toNat
def k0_dev25 (d0 : Dev nD) : Nat :=
  let c0_i32_727 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_726 : BitVec 32 := 1#32
  let v802 : BitVec 32 := Scalar.muli v52 c1_i32_726
  let v803 : BitVec 32 := Scalar.addi c0_i32_727 v802
  v803.toNat
def k0_dev26 (d0 : Dev nD) : Nat :=
  let c0_i32_751 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_750 : BitVec 32 := 1#32
  let v820 : BitVec 32 := Scalar.muli v79 c1_i32_750
  let v821 : BitVec 32 := Scalar.addi c0_i32_751 v820
  v821.toNat
def k0_dev27 (d0 : Dev nD) : Nat :=
  let c0_i32_893 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_892 : BitVec 32 := 1#32
  let v990 : BitVec 32 := Scalar.muli v52 c1_i32_892
  let v991 : BitVec 32 := Scalar.addi c0_i32_893 v990
  v991.toNat
def k0_dev28 (d0 : Dev nD) : Nat :=
  let c0_i32_916 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_915 : BitVec 32 := 1#32
  let v1008 : BitVec 32 := Scalar.muli v79 c1_i32_915
  let v1009 : BitVec 32 := Scalar.addi c0_i32_916 v1008
  v1009.toNat
def k0_dev29 (d0 : Dev nD) : Nat :=
  let c0_i32_940 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_939 : BitVec 32 := 1#32
  let v1026 : BitVec 32 := Scalar.muli v52 c1_i32_939
  let v1027 : BitVec 32 := Scalar.addi c0_i32_940 v1026
  v1027.toNat
def k0_dev30 (d0 : Dev nD) : Nat :=
  let c0_i32_964 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_963 : BitVec 32 := 1#32
  let v1044 : BitVec 32 := Scalar.muli v79 c1_i32_963
  let v1045 : BitVec 32 := Scalar.addi c0_i32_964 v1044
  v1045.toNat
def k0_dev31 (d0 : Dev nD) : Nat :=
  let c0_i32_988 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_987 : BitVec 32 := 1#32
  let v1062 : BitVec 32 := Scalar.muli v52 c1_i32_987
  let v1063 : BitVec 32 := Scalar.addi c0_i32_988 v1062
  v1063.toNat
def k0_dev32 (d0 : Dev nD) : Nat :=
  let c0_i32_1012 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1011 : BitVec 32 := 1#32
  let v1080 : BitVec 32 := Scalar.muli v79 c1_i32_1011
  let v1081 : BitVec 32 := Scalar.addi c0_i32_1012 v1080
  v1081.toNat
def k0_dev33 (d0 : Dev nD) : Nat :=
  let c0_i32_1036 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1035 : BitVec 32 := 1#32
  let v1098 : BitVec 32 := Scalar.muli v52 c1_i32_1035
  let v1099 : BitVec 32 := Scalar.addi c0_i32_1036 v1098
  v1099.toNat
def k0_dev34 (d0 : Dev nD) : Nat :=
  let c0_i32_1060 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1059 : BitVec 32 := 1#32
  let v1116 : BitVec 32 := Scalar.muli v79 c1_i32_1059
  let v1117 : BitVec 32 := Scalar.addi c0_i32_1060 v1116
  v1117.toNat
def k0_dev35 (d0 : Dev nD) : Nat :=
  let c0_i32_1201 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1200 : BitVec 32 := 1#32
  let v1286 : BitVec 32 := Scalar.muli v52 c1_i32_1200
  let v1287 : BitVec 32 := Scalar.addi c0_i32_1201 v1286
  v1287.toNat
def k0_dev36 (d0 : Dev nD) : Nat :=
  let c0_i32_1224 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1223 : BitVec 32 := 1#32
  let v1304 : BitVec 32 := Scalar.muli v79 c1_i32_1223
  let v1305 : BitVec 32 := Scalar.addi c0_i32_1224 v1304
  v1305.toNat
def k0_dev37 (d0 : Dev nD) : Nat :=
  let c0_i32_1248 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1247 : BitVec 32 := 1#32
  let v1322 : BitVec 32 := Scalar.muli v52 c1_i32_1247
  let v1323 : BitVec 32 := Scalar.addi c0_i32_1248 v1322
  v1323.toNat
def k0_dev38 (d0 : Dev nD) : Nat :=
  let c0_i32_1272 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1271 : BitVec 32 := 1#32
  let v1340 : BitVec 32 := Scalar.muli v79 c1_i32_1271
  let v1341 : BitVec 32 := Scalar.addi c0_i32_1272 v1340
  v1341.toNat
def k0_dev39 (d0 : Dev nD) : Nat :=
  let c0_i32_1296 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1295 : BitVec 32 := 1#32
  let v1358 : BitVec 32 := Scalar.muli v52 c1_i32_1295
  let v1359 : BitVec 32 := Scalar.addi c0_i32_1296 v1358
  v1359.toNat
def k0_dev40 (d0 : Dev nD) : Nat :=
  let c0_i32_1320 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1319 : BitVec 32 := 1#32
  let v1376 : BitVec 32 := Scalar.muli v79 c1_i32_1319
  let v1377 : BitVec 32 := Scalar.addi c0_i32_1320 v1376
  v1377.toNat
def k0_dev41 (d0 : Dev nD) : Nat :=
  let c0_i32_1344 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1343 : BitVec 32 := 1#32
  let v1394 : BitVec 32 := Scalar.muli v52 c1_i32_1343
  let v1395 : BitVec 32 := Scalar.addi c0_i32_1344 v1394
  v1395.toNat
def k0_dev42 (d0 : Dev nD) : Nat :=
  let c0_i32_1368 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1367 : BitVec 32 := 1#32
  let v1412 : BitVec 32 := Scalar.muli v79 c1_i32_1367
  let v1413 : BitVec 32 := Scalar.addi c0_i32_1368 v1412
  v1413.toNat
def k0_dev43 (d0 : Dev nD) : Nat :=
  let c0_i32_1509 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1508 : BitVec 32 := 1#32
  let v1582 : BitVec 32 := Scalar.muli v52 c1_i32_1508
  let v1583 : BitVec 32 := Scalar.addi c0_i32_1509 v1582
  v1583.toNat
def k0_dev44 (d0 : Dev nD) : Nat :=
  let c0_i32_1532 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1531 : BitVec 32 := 1#32
  let v1600 : BitVec 32 := Scalar.muli v79 c1_i32_1531
  let v1601 : BitVec 32 := Scalar.addi c0_i32_1532 v1600
  v1601.toNat
def k0_dev45 (d0 : Dev nD) : Nat :=
  let c0_i32_1556 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1555 : BitVec 32 := 1#32
  let v1618 : BitVec 32 := Scalar.muli v52 c1_i32_1555
  let v1619 : BitVec 32 := Scalar.addi c0_i32_1556 v1618
  v1619.toNat
def k0_dev46 (d0 : Dev nD) : Nat :=
  let c0_i32_1580 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1579 : BitVec 32 := 1#32
  let v1636 : BitVec 32 := Scalar.muli v79 c1_i32_1579
  let v1637 : BitVec 32 := Scalar.addi c0_i32_1580 v1636
  v1637.toNat
def k0_dev47 (d0 : Dev nD) : Nat :=
  let c0_i32_1604 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1603 : BitVec 32 := 1#32
  let v1654 : BitVec 32 := Scalar.muli v52 c1_i32_1603
  let v1655 : BitVec 32 := Scalar.addi c0_i32_1604 v1654
  v1655.toNat
def k0_dev48 (d0 : Dev nD) : Nat :=
  let c0_i32_1628 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1627 : BitVec 32 := 1#32
  let v1672 : BitVec 32 := Scalar.muli v79 c1_i32_1627
  let v1673 : BitVec 32 := Scalar.addi c0_i32_1628 v1672
  v1673.toNat
def k0_dev49 (d0 : Dev nD) : Nat :=
  let c0_i32_1652 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1651 : BitVec 32 := 1#32
  let v1690 : BitVec 32 := Scalar.muli v52 c1_i32_1651
  let v1691 : BitVec 32 := Scalar.addi c0_i32_1652 v1690
  v1691.toNat
def k0_dev50 (d0 : Dev nD) : Nat :=
  let c0_i32_1676 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1675 : BitVec 32 := 1#32
  let v1708 : BitVec 32 := Scalar.muli v79 c1_i32_1675
  let v1709 : BitVec 32 := Scalar.addi c0_i32_1676 v1708
  v1709.toNat
def k0_dev51 (d0 : Dev nD) : Nat :=
  let c0_i32_1817 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1816 : BitVec 32 := 1#32
  let v1878 : BitVec 32 := Scalar.muli v52 c1_i32_1816
  let v1879 : BitVec 32 := Scalar.addi c0_i32_1817 v1878
  v1879.toNat
def k0_dev52 (d0 : Dev nD) : Nat :=
  let c0_i32_1840 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1839 : BitVec 32 := 1#32
  let v1896 : BitVec 32 := Scalar.muli v79 c1_i32_1839
  let v1897 : BitVec 32 := Scalar.addi c0_i32_1840 v1896
  v1897.toNat
def k0_dev53 (d0 : Dev nD) : Nat :=
  let c0_i32_1864 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1863 : BitVec 32 := 1#32
  let v1914 : BitVec 32 := Scalar.muli v52 c1_i32_1863
  let v1915 : BitVec 32 := Scalar.addi c0_i32_1864 v1914
  v1915.toNat
def k0_dev54 (d0 : Dev nD) : Nat :=
  let c0_i32_1888 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1887 : BitVec 32 := 1#32
  let v1932 : BitVec 32 := Scalar.muli v79 c1_i32_1887
  let v1933 : BitVec 32 := Scalar.addi c0_i32_1888 v1932
  v1933.toNat
def k0_dev55 (d0 : Dev nD) : Nat :=
  let c0_i32_1912 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1911 : BitVec 32 := 1#32
  let v1950 : BitVec 32 := Scalar.muli v52 c1_i32_1911
  let v1951 : BitVec 32 := Scalar.addi c0_i32_1912 v1950
  v1951.toNat
def k0_dev56 (d0 : Dev nD) : Nat :=
  let c0_i32_1936 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1935 : BitVec 32 := 1#32
  let v1968 : BitVec 32 := Scalar.muli v79 c1_i32_1935
  let v1969 : BitVec 32 := Scalar.addi c0_i32_1936 v1968
  v1969.toNat
def k0_dev57 (d0 : Dev nD) : Nat :=
  let c0_i32_1960 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_1959 : BitVec 32 := 1#32
  let v1986 : BitVec 32 := Scalar.muli v52 c1_i32_1959
  let v1987 : BitVec 32 := Scalar.addi c0_i32_1960 v1986
  v1987.toNat
def k0_dev58 (d0 : Dev nD) : Nat :=
  let c0_i32_1984 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c16_i32_22 : BitVec 32 := 16#32
  let v53 : BitVec 32 := Scalar.addi v26 c16_i32_22
  let c1_i32_23 : BitVec 32 := 1#32
  let v54 : BitVec 32 := Scalar.subi v53 c1_i32_23
  let c16_i32_24 : BitVec 32 := 16#32
  let v55 : BitVec 32 := Scalar.remsi v54 c16_i32_24
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_33 : BitVec 32 := 2#32
  let v74 : BitVec 32 := Scalar.remsi v72 c2_i32_33
  let c0_i32_34 : BitVec 32 := 0#32
  let v75 : BitVec 1 := Scalar.cmpi .eq v74 c0_i32_34
  let c4_i32_32 : BitVec 32 := 4#32
  let v73 : BitVec 32 := Scalar.remsi v55 c4_i32_32
  let c3_i32_35 : BitVec 32 := 3#32
  let v76 : BitVec 32 := Scalar.subi c3_i32_35 v73
  let v77 : BitVec 32 := Scalar.select v75 v73 v76
  let v78 : BitVec 32 := Scalar.muli c4_i32_36 v77
  let v79 : BitVec 32 := Scalar.addi v78 v72
  let c1_i32_1983 : BitVec 32 := 1#32
  let v2004 : BitVec 32 := Scalar.muli v79 c1_i32_1983
  let v2005 : BitVec 32 := Scalar.addi c0_i32_1984 v2004
  v2005.toNat
def k0_dev59 (d0 : Dev nD) : Nat :=
  let c0_i32_2125 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_2124 : BitVec 32 := 1#32
  let v2174 : BitVec 32 := Scalar.muli v52 c1_i32_2124
  let v2175 : BitVec 32 := Scalar.addi c0_i32_2125 v2174
  v2175.toNat
def k0_dev60 (d0 : Dev nD) : Nat :=
  let c0_i32_2161 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_2160 : BitVec 32 := 1#32
  let v2200 : BitVec 32 := Scalar.muli v52 c1_i32_2160
  let v2201 : BitVec 32 := Scalar.addi c0_i32_2161 v2200
  v2201.toNat
def k0_dev61 (d0 : Dev nD) : Nat :=
  let c0_i32_2197 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_2196 : BitVec 32 := 1#32
  let v2226 : BitVec 32 := Scalar.muli v52 c1_i32_2196
  let v2227 : BitVec 32 := Scalar.addi c0_i32_2197 v2226
  v2227.toNat
def k0_dev62 (d0 : Dev nD) : Nat :=
  let c0_i32_2233 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_6 : BitVec 32 := 4#32
  let v21 : BitVec 32 := Scalar.muli v20 c4_i32_6
  let c2_i32 : BitVec 32 := 2#32
  let v22 : BitVec 32 := Scalar.remsi v20 c2_i32
  let c0_i32_7 : BitVec 32 := 0#32
  let v23 : BitVec 1 := Scalar.cmpi .eq v22 c0_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v24 : BitVec 32 := Scalar.subi c3_i32 v19
  let v25 : BitVec 32 := Scalar.select v23 v19 v24
  let v26 : BitVec 32 := Scalar.addi v21 v25
  let c1_i32_8 : BitVec 32 := 1#32
  let v27 : BitVec 32 := Scalar.addi v26 c1_i32_8
  let c16_i32_9 : BitVec 32 := 16#32
  let v28 : BitVec 32 := Scalar.remsi v27 c16_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v28 c4_i32_10
  let c0_i32_15 : BitVec 32 := 0#32
  let v42 : BitVec 1 := Scalar.cmpi .ne v41 c0_i32_15
  let v43 : BitVec 1 := Scalar.andi v40 v42
  let v29 : BitVec 32 := Scalar.divsi v28 c4_i32_10
  let c1_i32_16 : BitVec 32 := 1#32
  let v44 : BitVec 32 := Scalar.subi v29 c1_i32_16
  let v45 : BitVec 32 := Scalar.select v43 v44 v29
  let c2_i32_18 : BitVec 32 := 2#32
  let v47 : BitVec 32 := Scalar.remsi v45 c2_i32_18
  let c0_i32_19 : BitVec 32 := 0#32
  let v48 : BitVec 1 := Scalar.cmpi .eq v47 c0_i32_19
  let c4_i32_17 : BitVec 32 := 4#32
  let v46 : BitVec 32 := Scalar.remsi v28 c4_i32_17
  let c3_i32_20 : BitVec 32 := 3#32
  let v49 : BitVec 32 := Scalar.subi c3_i32_20 v46
  let v50 : BitVec 32 := Scalar.select v48 v46 v49
  let v51 : BitVec 32 := Scalar.muli c4_i32_21 v50
  let v52 : BitVec 32 := Scalar.addi v51 v45
  let c1_i32_2232 : BitVec 32 := 1#32
  let v2252 : BitVec 32 := Scalar.muli v52 c1_i32_2232
  let v2253 : BitVec 32 := Scalar.addi c0_i32_2233 v2252
  v2253.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "log10000" => some ((Real.log 10000 : ℝ) : EReal)
  | _ => none
-- ==== ReferenceIdeal.lean ====
abbrev S2x2048x512 : Shape := ⟨3, ![2, 2048, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2x2048x256 : Shape := ⟨3, ![2, 2048, 256]⟩
abbrev S2x2048x4x64 : Shape := ⟨4, ![2, 2048, 4, 64]⟩
abbrev S2x2048x4x32x2 : Shape := ⟨5, ![2, 2048, 4, 32, 2]⟩
abbrev S2x2048x4x32x1 : Shape := ⟨5, ![2, 2048, 4, 32, 1]⟩
abbrev S2x2048x4x32 : Shape := ⟨4, ![2, 2048, 4, 32]⟩
abbrev S1x2048x1x64 : Shape := ⟨4, ![1, 2048, 1, 64]⟩
abbrev S2x4x2048x2048 : Shape := ⟨4, ![2, 4, 2048, 2048]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .i32⟩
  | .hbm, ⟨23, _⟩ => ⟨S2048x1, .i32⟩
  | .hbm, ⟨24, _⟩ => ⟨S1x32, .f32⟩
  | .hbm, ⟨25, _⟩ => ⟨S2048x1, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32x2, .f32⟩
  | .hbm, ⟨31, _⟩ => ⟨S2048x64, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S2x2048x256, .f32⟩
  | .hbm, ⟨36, _⟩ => ⟨S2x2048x4x64, .f32⟩
  | .hbm, ⟨37, _⟩ => ⟨S2x2048x4x32x2, .f32⟩
  | .hbm, ⟨38, _⟩ => ⟨S2x2048x4x32x1, .f32⟩
  | .hbm, ⟨39, _⟩ => ⟨S2x2048x4x32, .f32⟩
  | .hbm, ⟨40, _⟩ => ⟨S2x2048x4x32, .f32⟩
  | .hbm, ⟨41, _⟩ => ⟨S2x2048x4x32x1, .f32⟩
  | .hbm, ⟨42, _⟩ => ⟨S2x2048x4x32, .f32⟩
  | .hbm, ⟨43, _⟩ => ⟨S2x2048x4x32x1, .f32⟩
  | .hbm, ⟨44, _⟩ => ⟨S2x2048x4x32x1, .f32⟩
  | .hbm, ⟨45, _⟩ => ⟨S2x2048x4x32x2, .f32⟩
  | .hbm, ⟨46, _⟩ => ⟨S2x2048x4x64, .f32⟩
  | .hbm, ⟨47, _⟩ => ⟨S1x2048x1x64, .f32⟩
  | .hbm, ⟨48, _⟩ => ⟨S2x2048x4x64, .f32⟩
  | .hbm, ⟨49, _⟩ => ⟨S2x2048x4x64, .f32⟩
  | .hbm, ⟨50, _⟩ => ⟨S1x2048x1x64, .f32⟩
  | .hbm, ⟨51, _⟩ => ⟨S2x2048x4x64, .f32⟩
  | .hbm, ⟨52, _⟩ => ⟨S2x2048x4x64, .f32⟩
  | .hbm, ⟨53, _⟩ => ⟨S2x2048x4x64, .f32⟩
  | .hbm, ⟨54, _⟩ => ⟨S2x2048x256, .f32⟩
  | .hbm, ⟨55, _⟩ => ⟨S2x2048x4x64, .f32⟩
  | .hbm, ⟨56, _⟩ => ⟨S2x2048x4x32x2, .f32⟩
  | .hbm, ⟨57, _⟩ => ⟨S2x2048x4x32x1, .f32⟩
  | .hbm, ⟨58, _⟩ => ⟨S2x2048x4x32, .f32⟩
  | .hbm, ⟨59, _⟩ => ⟨S2x2048x4x32, .f32⟩
  | .hbm, ⟨60, _⟩ => ⟨S2x2048x4x32x1, .f32⟩
  | .hbm, ⟨61, _⟩ => ⟨S2x2048x4x32, .f32⟩
  | .hbm, ⟨62, _⟩ => ⟨S2x2048x4x32x1, .f32⟩
  | .hbm, ⟨63, _⟩ => ⟨S2x2048x4x32x1, .f32⟩
  | .hbm, ⟨64, _⟩ => ⟨S2x2048x4x32x2, .f32⟩
  | .hbm, ⟨65, _⟩ => ⟨S2x2048x4x64, .f32⟩
  | .hbm, ⟨66, _⟩ => ⟨S1x2048x1x64, .f32⟩
  | .hbm, ⟨67, _⟩ => ⟨S2x2048x4x64, .f32⟩
  | .hbm, ⟨68, _⟩ => ⟨S2x2048x4x64, .f32⟩
  | .hbm, ⟨69, _⟩ => ⟨S1x2048x1x64, .f32⟩
  | .hbm, ⟨70, _⟩ => ⟨S2x2048x4x64, .f32⟩
  | .hbm, ⟨71, _⟩ => ⟨S2x2048x4x64, .f32⟩
  | .hbm, ⟨72, _⟩ => ⟨S2x2048x4x64, .f32⟩
  | .hbm, ⟨73, _⟩ => ⟨S2x2048x256, .f32⟩
  | .hbm, ⟨74, _⟩ => ⟨S2x2048x4x64, .f32⟩
  | .hbm, ⟨75, _⟩ => ⟨S2x4x2048x2048, .f32⟩
  | .hbm, ⟨76, _⟩ => ⟨S_, .f32⟩
  | .hbm, ⟨77, _⟩ => ⟨S2x4x2048x2048, .f32⟩
  | .hbm, ⟨78, _⟩ => ⟨S2x4x2048x2048, .f32⟩
  | .hbm, ⟨79, _⟩ => ⟨S_, .f32⟩
  | .hbm, ⟨80, _⟩ => ⟨S2x4x2048, .f32⟩
  | .hbm, ⟨81, _⟩ => ⟨S2x4x2048x1, .f32⟩
  | .hbm, ⟨82, _⟩ => ⟨S2x4x2048x2048, .f32⟩
  | .hbm, ⟨83, _⟩ => ⟨S2x4x2048x2048, .f32⟩
  | .hbm, ⟨84, _⟩ => ⟨S2x4x2048x2048, .f32⟩
  | .hbm, ⟨85, _⟩ => ⟨S_, .f32⟩
  | .hbm, ⟨86, _⟩ => ⟨S2x4x2048, .f32⟩
  | .hbm, ⟨87, _⟩ => ⟨S2x4x2048x1, .f32⟩
  | .hbm, ⟨88, _⟩ => ⟨S2x4x2048x2048, .f32⟩
  | .hbm, ⟨89, _⟩ => ⟨S2x4x2048x2048, .f32⟩
  | .hbm, ⟨90, _⟩ => ⟨S2x4x64x2048, .f32⟩
  | .hbm, ⟨91, _⟩ => ⟨S2x2048x4x64, .f32⟩
  | .hbm, ⟨92, _⟩ => ⟨S2x2048x256, .f32⟩
  | .hbm, ⟨93, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Cells.lean ====
/-
# The ring: its devices, its semaphores, the quarters its copies move, and what they hold

Sixteen devices stand on a ring that snakes through the 4×4 mesh. Device `c` keeps sixteen slots; its own keys
and values are in slot 0. Hop `j` of the sixty hops is one copy of a quarter (64 rows) of one slot: the first
thirty-two go right (group `g = j / 4` from slot `g` to slot `g + 1` of the right neighbour), the other
twenty-eight go left (from slot `16 - h` — slot 0 for `h = 0` — to slot `15 - h` of the left neighbour,
`h = j / 4 - 8`). Each hop has a send semaphore on its sender and a receive semaphore on its receiver.

Whichever way it came, slot `s` of device `c` ends up with the keys and values of the device `s` places behind it
on the ring: one function `kvfin` says what every slot holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state of the semaphores' rounds, -/
abbrev UB : Type := URounds (GSem nD τ sig) Bool
/-- beside the pipeline's own. -/
abbrev UU : Type := UR sig nD τ × UB

local notation "𝕄" => MT nD τ sig Unit (Elt F) ℕ UU ℕ

/-- Where the pipeline's ghost state lies in the whole, -/
abbrev EP : Emb (UR sig nD τ) (MT nD τ sig Unit (Elt F) ℕ UU ℕ) := embL
/-- and where the rounds' does. -/
abbrev ER : Emb UB (MT nD τ sig Unit (Elt F) ℕ UU ℕ) := embR

variable (m : (ℓ : Loc nD τ sig) → Buf (Elt F) ℓ) (ρ : Dev nD → PrngReg)

/-- The state at the start: memory `m`, every counter zero. -/
def s₀ : MemSt nD τ sig (Elt F) := ⟨m, fun _ => 0, ρ⟩

/-! ## The ring of devices -/

set_option backward.proofsInPublic true in
/-- The place of device `c` on the ring: column by column, every second column upwards. -/
def pos (c : Dev nD) : Fin 16 :=
  ⟨(c.val % 4) * 4 + (if (c.val % 4) % 2 = 0 then c.val / 4 else 3 - c.val / 4), by revert c; decide⟩

set_option backward.proofsInPublic true in
/-- The device at a place of the ring. -/
def devAt (r : Fin 16) : Dev nD :=
  ⟨4 * (if (r.val / 4) % 2 = 0 then r.val % 4 else 3 - r.val % 4) + r.val / 4, by revert r; decide⟩

/-- A device is found at its place, -/
theorem devAt_pos (c : Dev nD) : devAt (pos c) = c := by revert c; decide
/-- and a place is that of its device. -/
theorem pos_devAt (r : Fin 16) : pos (devAt r) = r := by revert r; decide

/-- The right neighbour, and the left one. -/
def nxt (c : Dev nD) : Dev nD := devAt (pos c + 1)
/-- The left neighbour. -/
def prv (c : Dev nD) : Dev nD := devAt (pos c - 1)
/-- Right, then left is back, -/
theorem prv_nxt (c : Dev nD) : prv (nxt c) = c := by revert c; decide
/-- and left, then right. -/
theorem nxt_prv (c : Dev nD) : nxt (prv c) = c := by revert c; decide

/-- The devices turned one place along the ring. -/
def ring : Dev nD ≃ Dev nD := ⟨nxt, prv, prv_nxt, nxt_prv⟩

/-- The device whose keys and values slot `s` of device `c` ends up with: the one `s` places behind `c`. -/
def own (c : Dev nD) (s : Fin 16) : Dev nD := devAt (pos c - s)

/-- Slot 0 is the device's own. -/
theorem own_zero (c : Dev nD) : own c 0 = c := by revert c; decide

/-! ## The hops -/

/-- The sixty hops: thirty-two to the right, then twenty-eight to the left. -/
abbrev Hop : Type := Fin 60
/-- A quarter: a slot and one of its four runs of 64 rows. -/
abbrev Quart : Type := Fin 16 × Fin 4

/-- The hops to the right. -/
abbrev goesRight (j : Hop) : Prop := j.val < 32
/-- The device hop `j` of device `c` lands on. -/
def tgt (j : Hop) (c : Dev nD) : Dev nD := if j.val < 32 then nxt c else prv c
/-- The device whose hop `j` lands on `c`. -/
def frm (j : Hop) (c : Dev nD) : Dev nD := if j.val < 32 then prv c else nxt c
/-- Hop `j` of the device it comes from lands here, -/
theorem tgt_frm (j : Hop) (c : Dev nD) : tgt j (frm j c) = c := by
  unfold tgt frm; split
  · exact nxt_prv c
  · exact prv_nxt c
/-- and what it lands on gets it from here. -/
theorem frm_tgt (j : Hop) (c : Dev nD) : frm j (tgt j c) = c := by
  unfold tgt frm; split
  · exact prv_nxt c
  · exact nxt_prv c

/-- The devices turned as hop `j` goes. -/
def turn (j : Hop) : Dev nD ≃ Dev nD := ⟨tgt j, frm j, frm_tgt j, tgt_frm j⟩

/-- The hop's number within its direction, by group. -/
abbrev hopNo (j : Hop) : ℕ := if j.val < 32 then j.val / 4 else j.val / 4 - 8

set_option backward.proofsInPublic true in
/-- The quarter hop `j` reads, -/
def srcQ (j : Hop) : Quart :=
  (⟨if j.val < 32 then j.val / 4 else if j.val / 4 = 8 then 0 else 24 - j.val / 4, by revert j; decide⟩, ⟨j.val % 4, by omega⟩)
set_option backward.proofsInPublic true in
/-- and the one it writes, on the neighbour. -/
def dstQ (j : Hop) : Quart :=
  (⟨if j.val < 32 then j.val / 4 + 1 else 23 - j.val / 4, by revert j; decide⟩, ⟨j.val % 4, by omega⟩)

/-- Two hops of one direction read different quarters. -/
theorem srcQ_inj : ∀ i j : Hop, (i.val < 32 ↔ j.val < 32) → srcQ i = srcQ j → i = j := by decide +kernel
/-- Two hops write different quarters. -/
theorem dstQ_inj : Function.Injective dstQ := by
  have h : ∀ i j : Hop, dstQ i = dstQ j → i = j := by decide +kernel
  exact fun i j => h i j
/-- No hop writes slot 0. -/
theorem dstQ_slot (j : Hop) : (dstQ j).1 ≠ 0 := by revert j; decide +kernel
/-- Every quarter is of slot 0 or is where some hop lands. -/
theorem dstQ_surj (x : Quart) (h : x.1 ≠ 0) : ∃ j, dstQ j = x := by revert x; decide +kernel

/-- What the slot read on `c` holds is what the slot written on the neighbour is to hold. -/
theorem own_tgt (j : Hop) (c : Dev nD) : own (tgt j c) (dstQ j).1 = own c (srcQ j).1 := by revert j c; decide +kernel
/-- A hop keeps to its run of rows. -/
theorem quarter_tgt (j : Hop) : (dstQ j).2 = (srcQ j).2 := rfl

/-! ## The semaphores -/

/-- The barrier's semaphore. -/
abbrev barS : SemLoc sig := .reg (SemArray.scalar (sig.barrier 0 rfl) : Sems sig S_).sem

set_option backward.proofsInPublic true in
/-- Hop `j`'s send semaphore (`false`) and receive semaphore (`true`). -/
abbrev dsem (k : Bool × Hop) : DmaSem sig :=
  if k.1 then ⟨if k.2.val < 32 then 38 + k.2.val else 66 + k.2.val, by have := k.2.isLt; show _ < 126; split <;> omega⟩
  else ⟨if k.2.val < 32 then 6 + k.2.val else 38 + k.2.val, by have := k.2.isLt; show _ < 126; split <;> omega⟩
/-- A hop's semaphore, among all. -/
abbrev osem (k : Bool × Hop) : SemLoc sig := .dma (dsem k)

set_option backward.proofsInPublic true in
/-- Which hop's semaphore a semaphore is. -/
def decode : SemLoc sig → Option (Bool × Hop)
  | .dma s =>
    if h : 6 ≤ s.val ∧ s.val < 38 then some (false, ⟨s.val - 6, by omega⟩)
    else if h : 38 ≤ s.val ∧ s.val < 70 then some (true, ⟨s.val - 38, by omega⟩)
    else if h : 70 ≤ s.val ∧ s.val < 98 then some (false, ⟨s.val - 38, by omega⟩)
    else if h : 98 ≤ s.val ∧ s.val < 126 then some (true, ⟨s.val - 66, by omega⟩)
    else none
  | .reg _ => none

/-- A hop's semaphore is read back as the hop's, -/
theorem decode_osem (k : Bool × Hop) : decode (osem k) = some k := by
  have h : ∀ (b : Bool) (j : Hop), decode (osem (b, j)) = some (b, j) := by decide +kernel
  exact h k.1 k.2
/-- the barrier's as no hop's, -/
theorem decode_bar : decode barS = none := rfl
/-- so that they differ. -/
theorem osem_ne_bar (k : Bool × Hop) : osem k ≠ barS := fun h => by cases h

/-- The cells of the protocol, one barrier and a hundred and twenty of the hops, per device. -/
abbrev csem : Option (Bool × Hop) → SemLoc sig := fun | none => barS | some k => osem k
/-- The semaphore named by a device and a hop or none, -/
abbrev kcell (ck : Dev nD × Option (Bool × Hop)) : GSem nD τ sig := ((ck.1 : Thread nD τ), csem ck.2)
/-- the barrier's, -/
abbrev barCell (c : Dev nD) : GSem nD τ sig := ((c : Thread nD τ), barS)
/-- a hop's at its sender, -/
abbrev sendCell (c : Dev nD) (j : Hop) : GSem nD τ sig := ((c : Thread nD τ), osem (false, j))
/-- and at its receiver. -/
abbrev recvCell (c : Dev nD) (j : Hop) : GSem nD τ sig := ((c : Thread nD τ), osem (true, j))

/-- The names are of different semaphores. -/
theorem csem_injective : Function.Injective csem := by
  intro a b h
  cases a with
  | none => cases b with
    | none => rfl
    | some k => exact absurd h.symm (osem_ne_bar k)
  | some k => cases b with
    | none => exact absurd h (osem_ne_bar k)
    | some k' =>
      have := congrArg decode h
      rwa [decode_osem, decode_osem] at this

/-! ## The quarters in memory -/

/-- The slots. -/
abbrev kvM : Memref sig .tc .vmem S16x256x512 .bf16 := Memref.whole cc0_scratch0

/-- A quarter lies within the slots. -/
theorem inbQ (x : Quart) : ∀ a, (![x.1.val, 64 * x.2.val, 0] : Fin 3 → ℕ) a + S1x64x512.size a ≤ S16x256x512.size a := by
  intro a
  have h1 := x.1.isLt; have h2 := x.2.isLt
  fin_cases a
  · show x.1.val + 1 ≤ 16; omega
  · show 64 * x.2.val + 64 ≤ 256; omega
  · show 0 + 512 ≤ 512; omega

/-- The quarter `x` of the slots, as the copies name it. -/
abbrev qM (x : Quart) : Memref sig .tc .vmem S64x512 .bf16 :=
  (kvM.slice (Rect.unit (s := S16x256x512) ![x.1.val, 64 * x.2.val, 0] S1x64x512.size (inbQ x)) (fun _ => rfl)).squeeze S64x512 squeezes_S1x64x512_S64x512

/-- The places of the slots. -/
abbrev KVIdx : Type := S16x256x512.Idx
/-- The elements of quarter `x`. -/
def qset (x : Quart) : Finset KVIdx := (qM x).view.set

/-- A place is in a quarter when its slot and its run of rows are the quarter's. -/
theorem mem_qset {x : Quart} {i : KVIdx} : i ∈ qset x ↔ (i 0).val = x.1.val ∧ (i 1).val / 64 = x.2.val := by
  rw [show qset x = (Rect.unit (s := S16x256x512) ![x.1.val, 64 * x.2.val, 0] S1x64x512.size (inbQ x)).set from
    (View.set_reshape _ _).trans (View.set_slice_whole cc0_scratch0 _)]
  refine Rect.mem_set_unit.trans ?_
  have h1 : (i 1).val < 256 := (i 1).isLt
  have h2 : (i 2).val < 512 := (i 2).isLt
  constructor
  · intro h
    have h0 := h 0; have h1 := h 1
    change x.1.val ≤ (i 0).val ∧ (i 0).val < x.1.val + 1 at h0
    change 64 * x.2.val ≤ (i 1).val ∧ (i 1).val < 64 * x.2.val + 64 at h1
    omega
  · rintro ⟨h0, h1⟩ a
    fin_cases a
    · show x.1.val ≤ (i 0).val ∧ (i 0).val < x.1.val + 1; omega
    · show 64 * x.2.val ≤ (i 1).val ∧ (i 1).val < 64 * x.2.val + 64; omega
    · show 0 ≤ (i 2).val ∧ (i 2).val < 0 + 512; omega

/-- Two quarters have no place in common. -/
theorem qset_disjoint {x y : Quart} (h : x ≠ y) : Disjoint (qset x) (qset y) :=
  Finset.disjoint_left.mpr fun i hx hy => h (by
    rw [mem_qset] at hx hy
    exact Prod.ext (Fin.ext (hx.1.symm.trans hy.1)) (Fin.ext (hx.2.symm.trans hy.2)))

/-- The elements of a set of quarters. -/
def qsets (T : Finset Quart) : Finset KVIdx := T.biUnion qset

set_option backward.proofsInPublic true in
/-- The quarter an element is in. -/
def quartOf (i : KVIdx) : Quart := (⟨(i 0).val, (i 0).isLt⟩, ⟨(i 1).val / 64, by have : (i 1).val < 256 := (i 1).isLt; omega⟩)
/-- A place is in a set of quarters when its quarter is. -/
theorem mem_qsets {T : Finset Quart} {i : KVIdx} : i ∈ qsets T ↔ quartOf i ∈ T := by
  unfold qsets
  rw [Finset.mem_biUnion]
  constructor
  · rintro ⟨x, hx, hi⟩
    rw [mem_qset] at hi
    have : quartOf i = x := Prod.ext (Fin.ext hi.1) (Fin.ext hi.2)
    rwa [this]
  · exact fun h => ⟨_, h, mem_qset.mpr ⟨rfl, rfl⟩⟩
/-- The quarters are all the slots. -/
theorem qsets_univ : qsets Finset.univ = Finset.univ := by
  ext i; simp only [mem_qsets, Finset.mem_univ]

/-- What the copy of a quarter pays its semaphores. -/
abbrev N : ℕ := (qM (0, 0)).view.dmaCredit
/-- It is something, -/
theorem N_pos : 0 < N := View.dmaCredit_pos _ (by decide)
/-- and the same for each quarter. -/
theorem credit_eq (x : Quart) : (qM x).view.dmaCredit = N := rfl

/-! ## Contents -/

/-- What a device's staging buffers hold when the body starts. -/
def xstg (c : Dev nD) : (cc0_stg0_0 : Ref sig .tc).ty.Contents (Elt F) :=
  (win0_0.blk (0 : Fin 1)).view.read (Elt F) ((s₀ m ρ).mem ((c : Thread nD τ).loc main_arg0))
/-- The staged weights of the queries, -/
def wqstg (c : Dev nD) : (cc0_stg1_0 : Ref sig .tc).ty.Contents (Elt F) :=
  (win0_1.blk (0 : Fin 1)).view.read (Elt F) ((s₀ m ρ).mem ((c : Thread nD τ).loc main_arg1))
/-- of the keys -/
def wkstg (c : Dev nD) : (cc0_stg2_0 : Ref sig .tc).ty.Contents (Elt F) :=
  (win0_2.blk (0 : Fin 1)).view.read (Elt F) ((s₀ m ρ).mem ((c : Thread nD τ).loc main_arg2))
/-- and of the values, -/
def wvstg (c : Dev nD) : (cc0_stg3_0 : Ref sig .tc).ty.Contents (Elt F) :=
  (win0_3.blk (0 : Fin 1)).view.read (Elt F) ((s₀ m ρ).mem ((c : Thread nD τ).loc main_arg3))
/-- and the staged output matrix. -/
def wostg (c : Dev nD) : (cc0_stg4_0 : Ref sig .tc).ty.Contents (Elt F) :=
  (win0_4.blk (0 : Fin 1)).view.read (Elt F) ((s₀ m ρ).mem ((c : Thread nD τ).loc main_arg4))

/-- The device's number as the kernel computes it. -/
def devWord (c : Dev nD) : BitVec 32 := Scalar.remsi (Scalar.divsi (Dev.word c) 1#32) 16#32
/-- The cosines and sines of the device's rows. -/
def cosP (c : Dev nD) : FVec F S256x256 .f32 :=
  k0_pay10 (k0_pay5 (F := F) (devWord c)) k0_pay6 2#32 k0_pay7 k0_pay8 (Scalar.extui (Scalar.cmpi .sgt 2#32 0#32))
/-- The sines of the angles. -/
def sinP (c : Dev nD) : FVec F S256x256 .f32 :=
  k0_pay11 (k0_pay5 (F := F) (devWord c)) k0_pay6 2#32 k0_pay7 k0_pay8 (Scalar.extui (Scalar.cmpi .sgt 2#32 0#32))
/-- The device's rotated keys beside its values, as stored in its slot 0. -/
def kvP (c : Dev nD) : FVec F S1x256x512 .bf16 :=
  k0_pay17 (k0_pay3 (xstg m ρ c) (wkstg m ρ c)) (k0_pay4 (xstg m ρ c) (wvstg m ρ c)) (cosP c) (sinP c) k0_pay12 k0_pay13
    (Scalar.ofBits .f32 0x00000000#32) (k0_pay14 (F := F))
/-- The device's rotated and scaled queries. -/
def qP (c : Dev nD) : FVec F S256x256 .bf16 :=
  k0_pay34 (k0_pay16 (k0_pay2 (xstg m ρ c) (wqstg m ρ c)) (cosP c) (sinP c) k0_pay12 k0_pay13
    (Scalar.ofBits .f32 0x00000000#32) (k0_pay14 (F := F)))

/-- The element of a slot under an element of the slots. -/
def inSlot (i : KVIdx) : S1x256x512.Idx := fun a => match a with
  | ⟨0, _⟩ => (0 : Fin 1)
  | ⟨1, _⟩ => i 1
  | ⟨2, _⟩ => i 2

/-- What the slots of device `c` hold, each once it is filled. -/
def kvfin (c : Dev nD) : S16x256x512.Idx → Elt F .bf16 := fun i => kvP m ρ (own c (i 0)) (inSlot i)

/-- The buffer of the slots on device `c`. -/
abbrev kvLoc (c : Dev nD) : Loc nD τ sig := (c : Thread nD τ).loc cc0_scratch0

/-- One quarter of the slots of `c`, at a share, holding what it is to hold; -/
def pt (c : Dev nD) (q : PosShare TreeShare) (x : Quart) : sProp 𝕄 := kvLoc c ↦[qset x]{q} kvfin m ρ c
/-- a set of quarters. -/
def pts (c : Dev nD) (q : PosShare TreeShare) (T : Finset Quart) : sProp 𝕄 := kvLoc c ↦[qsets T]{q} kvfin m ρ c
/-- Where hop `j` of `c` lands, holding anything. -/
def landing (j : Hop) (c : Dev nD) : sProp 𝕄 := iprop(∃ f, kvLoc (tgt j c) ↦[qset (dstQ j)]{fullShare} f)

/-- A quarter held may be stored in an invariant, -/
instance pt_storable (c : Dev nD) (q) (x) : BI.Storable (upEmb : UEmb _ 𝕄) (pt m ρ c q x) := by unfold pt; infer_instance
/-- and so may a place to land. -/
instance landing_storable (j) (c : Dev nD) : BI.Storable (upEmb : UEmb _ 𝕄) (landing (F := F) j c) := by unfold landing; infer_instance

/-- One quarter more in a set. -/
theorem pts_insert (c : Dev nD) (q) {x : Quart} {T : Finset Quart} (h : x ∉ T) :
    (pts m ρ c q (insert x T) : sProp 𝕄) ⊣⊢ iprop(pt m ρ c q x ∗ pts m ρ c q T) := by
  unfold pts pt
  rw [show qsets (insert x T) = qset x ∪ qsets T from Finset.biUnion_insert]
  refine pointsTo_union (Finset.disjoint_left.mpr fun i hx hT => ?_)
  rw [mem_qsets] at hT
  rw [mem_qset] at hx
  have : quartOf i = x := Prod.ext (Fin.ext hx.1) (Fin.ext hx.2)
  exact h (this ▸ hT)

end Cert.RingAttn

end
-- ==== Proof.Protocol.lean ====
/-
# The protocol: who waits, who pays, and what is handed over

The barrier cell of device `c` takes two units, one from each neighbour: the right one (duty `true`) hands over where
`c`'s right hops land on it, the left one (duty `false`) where `c`'s left hops land. Each of hop `j`'s two cells takes
one duty of the quarter's credit. The send cell's payload is the lent share of the quarter read; the receive cell's is
the quarter landed on, full, holding what its slot is to hold (`kvfin`).

A receive cell of the `h`-th hop of its direction stands at level `2 + h`, a barrier at level 1, everything else at 0:
a device waits for hop `h` only when all it still owes is of later hops.
-/
module

public import proofs.«01_k».proof.Proof.Cells

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The schedule -/

/-- The direction of a hop: `true` is right. -/
abbrev dirOf (j : Hop) : Bool := decide (j.val < 32)
/-- The share the hops of a direction read their sources at; the body reads at the left half. -/
def poolShare (b : Bool) : PosShare TreeShare := if b then fullShare.right.left else fullShare.right.right
/-- The share hop `j` reads its source at. -/
abbrev lendShare (j : Hop) : PosShare TreeShare := poolShare (dirOf j)

/-- The hops of one direction. -/
def hopsOf (b : Bool) : Finset Hop := Finset.univ.filter fun j => dirOf j = b

/-- What the barrier hands `c` for its hops of direction `b`. -/
def barPay (b : Bool) (c : Dev nD) : sProp 𝕄 := bigSep (hopsOf b) fun j => landing j c

/-- What hop `j`'s cells hand `c`. -/
def xferPay (k : Bool × Hop) (c : Dev nD) : sProp 𝕄 :=
  if k.1 then pt m ρ c fullShare (dstQ k.2) else pt m ρ c (lendShare k.2) (srcQ k.2)

/-- What the barrier hands over may be stored in an invariant, -/
instance barPay_storable (b) (c : Dev nD) : BI.Storable (upEmb : UEmb _ 𝕄) (barPay (F := F) b c) := by
  unfold barPay; infer_instance
/-- and so may what a copy does. -/
instance xferPay_storable (k) (c : Dev nD) : BI.Storable (upEmb : UEmb _ 𝕄) (xferPay m ρ k c) := by
  unfold xferPay; split <;> infer_instance

/-- A barrier, -/
abbrev IsBar (g : GSem nD τ sig) : Prop := g.1.2 = .tc ∧ g.2 = barS
/-- and a hop's semaphore. -/
abbrev IsXfer (g : GSem nD τ sig) : Prop := g.1.2 = .tc ∧ (decode g.2).isSome = true

/-- One round: a barrier's two duties of a unit, each hop cell's one duty of a quarter's credit. -/
def ringRd : Rounds.Schedule (GSem nD τ sig) Bool 𝕄 where
  duties g r := if r = 0 ∧ IsBar g then Finset.univ else if r = 0 ∧ IsXfer g then {false} else ∅
  unitless _ := False
  amount g _ _ := if g.2 = barS then 1 else N
  payload g _ d :=
    if g.2 = barS then barPay d g.1.1
    else match decode g.2 with
      | some k => xferPay m ρ k g.1.1
      | none => iprop(emp)
  amount_pos g _ _ _ := by
    by_cases h : g.2 = barS
    · rw [if_pos h]; exact Nat.one_pos
    · rw [if_neg h]; exact N_pos

/-- Every payment may be stored. -/
instance ringRd_payload_storable (g : GSem nD τ sig) (r : ℕ) (d : Bool) :
    BI.Storable (upEmb : UEmb _ 𝕄) ((ringRd (F := F) m ρ).payload g r d) := by
  show BI.Storable upEmb (if g.2 = barS then barPay d g.1.1
    else match decode g.2 with
      | some k => xferPay m ρ k g.1.1
      | none => iprop(emp))
  split
  · infer_instance
  · split <;> infer_instance

section Sched
variable (c : Dev nD)

/-- Both neighbours pay a barrier, -/
theorem duties_bar : (ringRd (F := F) m ρ).duties (barCell c) 0 = Finset.univ := by dsimp only [ringRd]; exact if_pos ⟨rfl, rfl, rfl⟩
/-- one copy pays a hop's semaphore, -/
theorem duties_xfer (k : Bool × Hop) : (ringRd (F := F) m ρ).duties ((c : Thread nD τ), osem k) 0 = {false} := by
  dsimp only [ringRd]; rw [if_neg (fun h => osem_ne_bar k h.2.2)]
  exact if_pos ⟨rfl, rfl, by show (decode (osem k)).isSome = true; rw [decode_osem]; rfl⟩
/-- and nobody pays twice. -/
theorem duties_later (g : GSem nD τ sig) : ∀ r, 1 ≤ r → (ringRd (F := F) m ρ).duties g r = ∅ :=
  fun r hr => by dsimp only [ringRd]; rw [if_neg fun h => by omega, if_neg fun h => by omega]

/-- A neighbour pays one unit, -/
theorem amount_bar (d : Bool) : (ringRd (F := F) m ρ).amount (barCell c) 0 d = 1 := by dsimp only [ringRd]; exact if_pos rfl
/-- a copy pays for its quarter; -/
theorem amount_xfer (k : Bool × Hop) (d : Bool) : (ringRd (F := F) m ρ).amount ((c : Thread nD τ), osem k) 0 d = N := by
  dsimp only [ringRd]; exact if_neg (osem_ne_bar k)

/-- so a barrier gets two units, -/
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- and a hop's semaphore one quarter. -/
theorem expect_xfer (k : Bool × Hop) : (ringRd (F := F) m ρ).expect ((c : Thread nD τ), osem k) 0 = N := by
  unfold Schedule.expect Schedule.amountOf; rw [duties_xfer m ρ c k, Finset.sum_singleton, amount_xfer]

/-- What comes with a neighbour's signal, -/
theorem payload_bar (d : Bool) : (ringRd (F := F) m ρ).payload (barCell c) 0 d = barPay d c := by
  dsimp only [ringRd]; exact if_pos rfl
/-- and with a copy. -/
theorem payload_xfer (k : Bool × Hop) (d : Bool) : (ringRd (F := F) m ρ).payload ((c : Thread nD τ), osem k) 0 d = xferPay m ρ k c := by
  dsimp only [ringRd]; rw [if_neg (osem_ne_bar k), decode_osem]

/-- All that a barrier hands over, -/
theorem rest_bar : bigSep ((ringRd (F := F) m ρ).duties (barCell c) 0 \ ∅) (fun d => (ringRd (F := F) m ρ).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
/-- and all that a hop's semaphore does. -/
theorem rest_xfer (k : Bool × Hop) :
    bigSep ((ringRd (F := F) m ρ).duties ((c : Thread nD τ), osem k) 0 \ ∅) (fun d => (ringRd (F := F) m ρ).payload ((c : Thread nD τ), osem k) 0 d)
      = xferPay m ρ k c := by
  rw [Finset.sdiff_empty, duties_xfer m ρ c k, bigSep_singleton, payload_xfer]

end Sched

/-! ## What a device owes; the levels -/

/-- Hops `S` started, what `c` still owes: the receive credit of every other hop. -/
def owedBy (c : Dev nD) (S : Finset Hop) : CellTallies nD τ sig Unit :=
  ∑ j ∈ Finset.univ \ S, tallyAt (recvCell (tgt j c) j) () N
/-- After the first signal a device still owes the second; -/
def O₁ (c : Dev nD) : CellTallies nD τ sig Unit := owedBy c ∅ + tallyAt (barCell (nxt c)) () 1
/-- at the start it owes both. -/
def O₀ (c : Dev nD) : CellTallies nD τ sig Unit := O₁ c + tallyAt (barCell (prv c)) () 1

/-- Starting a hop pays for it, -/
theorem owedBy_insert (c : Dev nD) {S : Finset Hop} {j : Hop} (h : j ∉ S) :
    owedBy c S = owedBy c (insert j S) + tallyAt (recvCell (tgt j c) j) () N := by
  unfold owedBy
  have hs : Finset.univ \ S = insert j (Finset.univ \ insert j S) := by
    ext i; simp only [Finset.mem_sdiff, Finset.mem_univ, true_and, Finset.mem_insert]
    by_cases e : i = j
    · subst e; simp [h]
    · simp [e]
  rw [hs, Finset.sum_insert (by simp), add_comm]
/-- and after all hops nothing is owed. -/
theorem owedBy_univ (c : Dev nD) : owedBy c Finset.univ = 0 := by unfold owedBy; rw [Finset.sdiff_self, Finset.sum_empty]

/-- The labels of a semaphore. -/
def L (g : GSem nD τ sig) : Finset Unit := if g.1.2 = .tc then {()} else ∅
/-- The level of a semaphore. -/
def semLv (s : SemLoc sig) : ℕ := if s = barS then 1 else match decode s with
  | some (true, j) => 2 + hopNo j
  | _ => 0
/-- The level of a semaphore, by its label. -/
def lv (g : GSem nD τ sig) (_ : Unit) : ℕ := semLv g.2

/-- A receive semaphore is above the barrier, by the hop's number; -/
theorem semLv_recv (j : Hop) : semLv (osem (true, j)) = 2 + hopNo j := by
  unfold semLv; rw [if_neg (osem_ne_bar _), decode_osem]
/-- a send semaphore is lowest, -/
theorem semLv_send (j : Hop) : semLv (osem (false, j)) = 0 := by
  unfold semLv; rw [if_neg (osem_ne_bar _), decode_osem]
/-- and the barrier next. -/
theorem semLv_bar : semLv barS = 1 := if_pos rfl

/-- Only the cores that run the bodies have labels, -/
theorem L_of_ne (g : GSem nD τ sig) (h : g.1.2 ≠ .tc) : L g = ∅ := if_neg h
/-- and one each. -/
theorem L_tc (c : Dev nD) (sm : SemLoc sig) : L ((c : Thread nD τ), sm) = {()} := if_pos rfl

/-- What is owed for hops is owed to their receive semaphores, -/
theorem owedBy_pos {c : Dev nD} {S : Finset Hop} {g : GSem nD τ sig} {u : Unit} (h : 0 < owedBy c S g u) :
    ∃ j, j ∉ S ∧ g = recvCell (tgt j c) j := by
  unfold owedBy at h
  rw [Finset.sum_apply, Finsupp.finset_sum_apply] at h
  obtain ⟨j, hj, hne⟩ := Finset.exists_ne_zero_of_sum_ne_zero (Nat.pos_iff_ne_zero.mp h)
  refine ⟨j, (Finset.mem_sdiff.mp hj).2, ?_⟩
  rw [tallyAt_apply] at hne
  by_contra hn
  exact hne (if_neg fun h' => hn h'.1)
/-- and at the start to the barriers of the neighbours too. -/
theorem O₀_pos {c : Dev nD} {g : GSem nD τ sig} {u : Unit} (h : 0 < O₀ c g u) :
    (∃ j, j ∉ (∅ : Finset Hop) ∧ g = recvCell (tgt j c) j) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1), Nat.add_zero] at h
  exact hn.1 (owedBy_pos h)

/-- A device may wait on a semaphore below all that it owes. -/
theorem mayWait_owed (c : Dev nD) (sm : SemLoc sig) (S : Finset Hop) (h : ∀ j, j ∉ S → semLv sm < 2 + hopNo j) :
    (levAts L lv : sProp 𝕄) ⊢ MayWait (c : Thread nD τ) sm () (owedBy c S) :=
  MayOwe.of_cut (L := L) (lev := lv) (semLv sm) (fun p hp => by rw [Finset.mem_singleton.mp hp, L_tc]; exact Finset.mem_singleton_self _)
    (fun g u hg => by obtain ⟨j, -, rfl⟩ := owedBy_pos hg; exact Finset.mem_singleton_self _)
    (fun p hp => by rw [Finset.mem_singleton.mp hp]; exact le_refl _)
    (fun g u hg => by
      obtain ⟨j, hj, rfl⟩ := owedBy_pos hg
      show semLv sm < semLv (osem (true, j))
      rw [semLv_recv]; exact h j hj)

/-- A device may wait for its staging copies. -/
theorem mayWait_stage (c : Dev nD) (q : DmaSem sig) (hq : semLv (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, -, rfl⟩ | rfl | rfl <;> exact Finset.mem_singleton_self _)
      (fun p hp => by rw [Finset.mem_singleton.mp hp]; exact hq.le)
      (fun g u hg => by
        rcases O₀_pos hg with ⟨j, -, rfl⟩ | rfl | rfl
        · show 0 < semLv (osem (true, j)); rw [semLv_recv]; omega
        · show 0 < semLv barS; rw [semLv_bar]; exact Nat.one_pos
        · show 0 < semLv barS; rw [semLv_bar]; exact Nat.one_pos)
  · rw [MayWait_zero]; iintro -; iempintro

/-! ## The cells' records -/

/-- A name for each semaphore's invariant. -/
abbrev Names : Type := Dev nD × Option (Bool × Hop) → ℕ

/-- The invariants of all semaphores, each in its first round. -/
def records (K : Names) : sProp 𝕄 :=
  iprop((bigSep Finset.univ fun ck : Dev nD × Option (Bool × Hop) => cellInv ER (ringRd m ρ) (K ck) (kcell ck))
    ∗ bigSep Finset.univ fun ck : Dev nD × Option (Bool × Hop) => reached ER (kcell ck) 0)
/-- The records can be used again and again. -/
instance records_persistent (K : Names) : BI.Persistent (records m ρ K) := by unfold records; infer_instance

/-- The invariant of one semaphore, -/
theorem inv_at (K : Names) (ck : Dev nD × Option (Bool × Hop)) :
    (records m ρ K : sProp 𝕄) ⊢ cellInv ER (ringRd m ρ) (K ck) (kcell ck) :=
  sep_elim_left.trans (bigSep_elim (Finset.mem_univ ck))
/-- and its round. -/
theorem reached_at (K : Names) (ck : Dev nD × Option (Bool × Hop)) :
    (records m ρ K : sProp 𝕄) ⊢ reached ER (kcell ck) 0 :=
  sep_elim_right.trans (bigSep_elim (Finset.mem_univ ck))

/-! ## The quarters readable, and those a direction may still lend -/

/-- The quarters filled once the hops `W` have been waited for. -/
def avail (W : Finset Hop) : Finset Quart := Finset.univ.filter (fun x => x.1 = 0) ∪ W.image dstQ
/-- Those lent to the hops of direction `b` under way. -/
def lent (b : Bool) (S D : Finset Hop) : Finset Quart := ((S \ D).filter fun j => decide (j.val < 32) = b).image srcQ

/-- An arrival makes its quarter readable, -/
theorem avail_insert (W : Finset Hop) (j : Hop) : avail (insert j W) = insert (dstQ j) (avail W) := by
  unfold avail; rw [Finset.image_insert, Finset.union_insert]
/-- which was not so before, -/
theorem dst_notMem_avail {W : Finset Hop} {j : Hop} (h : j ∉ W) : dstQ j ∉ avail W := by
  unfold avail
  rw [Finset.mem_union, Finset.mem_filter, Finset.mem_image]
  rintro (⟨-, h0⟩ | ⟨i, hi, e⟩)
  · exact dstQ_slot j h0
  · exact h (dstQ_inj e ▸ hi)
/-- and after all arrivals every quarter is. -/
theorem avail_univ : avail Finset.univ = Finset.univ := by
  ext x; unfold avail
  simp only [Finset.mem_union, Finset.mem_filter, Finset.mem_univ, true_and, Finset.mem_image, iff_true]
  by_cases h : x.1 = 0
  · exact Or.inl h
  · exact Or.inr (dstQ_surj x h)

/-- A quarter is lent when a hop that reads it is under way. -/
theorem mem_lent {b : Bool} {S D : Finset Hop} {x : Quart} :
    x ∈ lent b S D ↔ ∃ j, j ∈ S ∧ j ∉ D ∧ decide (j.val < 32) = b ∧ srcQ j = x := by
  unfold lent; simp only [Finset.mem_image, Finset.mem_filter, Finset.mem_sdiff, and_assoc]

/-- Within a direction a quarter tells the hop. -/
theorem same_dir {i j : Hop} (h : dirOf i = dirOf j) (e : srcQ i = srcQ j) : i = j :=
  srcQ_inj i j (decide_eq_decide.mp h) e

/-- Starting a hop lends its quarter -/
theorem lent_start {S D : Finset Hop} {j : Hop} (hD : j ∉ D) : lent (dirOf j) (insert j S) D = insert (srcQ j) (lent (dirOf j) S D) := by
  ext x; simp only [mem_lent, Finset.mem_insert]
  constructor
  · rintro ⟨i, hi | hi, h1, h2, h3⟩
    · exact Or.inl (by rw [← h3, hi])
    · exact Or.inr ⟨i, hi, h1, h2, h3⟩
  · rintro (rfl | ⟨i, hi, h1, h2, h3⟩)
    · exact ⟨j, Or.inl rfl, hD, rfl, rfl⟩
    · exact ⟨i, Or.inr hi, h1, h2, h3⟩
/-- in its own direction only, -/
theorem lent_start_other {b : Bool} {S D : Finset Hop} {j : Hop} (h : dirOf j ≠ b) : lent b (insert j S) D = lent b S D := by
  ext x; simp only [mem_lent, Finset.mem_insert]
  constructor
  · rintro ⟨i, hi | hi, h1, h2, h3⟩
    · exact absurd (hi ▸ h2) h
    · exact ⟨i, hi, h1, h2, h3⟩
  · rintro ⟨i, hi, h1, h2, h3⟩; exact ⟨i, Or.inr hi, h1, h2, h3⟩
/-- which was not lent before. -/
theorem src_notMem_lent {S D : Finset Hop} {j : Hop} (hS : j ∉ S) : srcQ j ∉ lent (dirOf j) S D := by
  rw [mem_lent]; rintro ⟨i, hi, -, h2, h3⟩; exact hS (same_dir h2 h3 ▸ hi)
/-- A departure gives it back -/
theorem lent_done {S D : Finset Hop} {j : Hop} (hS : j ∈ S) (hD : j ∉ D) : lent (dirOf j) S D = insert (srcQ j) (lent (dirOf j) S (insert j D)) := by
  ext x; simp only [mem_lent, Finset.mem_insert, not_or]
  constructor
  · rintro ⟨i, hi, h1, h2, h3⟩
    by_cases e : i = j
    · exact Or.inl (by rw [← h3, e])
    · exact Or.inr ⟨i, hi, ⟨e, h1⟩, h2, h3⟩
  · rintro (rfl | ⟨i, hi, h1, h2, h3⟩)
    · exact ⟨j, hS, hD, rfl, rfl⟩
    · exact ⟨i, hi, h1.2, h2, h3⟩
/-- in its own direction only, -/
theorem lent_done_other {b : Bool} {S D : Finset Hop} {j : Hop} (h : dirOf j ≠ b) : lent b S (insert j D) = lent b S D := by
  ext x; simp only [mem_lent, Finset.mem_insert, not_or]
  constructor
  · rintro ⟨i, hi, h1, h2, h3⟩; exact ⟨i, hi, h1.2, h2, h3⟩
  · rintro ⟨i, hi, h1, h2, h3⟩; exact ⟨i, hi, ⟨fun e => h (e ▸ h2), h1⟩, h2, h3⟩
/-- and then it is not lent. -/
theorem src_notMem_lent_done {S D : Finset Hop} {j : Hop} : srcQ j ∉ lent (dirOf j) S (insert j D) := by
  rw [mem_lent]; rintro ⟨i, hi, h1, h2, h3⟩; exact h1 (same_dir h2 h3 ▸ Finset.mem_insert_self _ _)
/-- Nothing is lent once all that started has departed, -/
theorem lent_self (b : Bool) (S : Finset Hop) : lent b S S = ∅ := by
  ext x; simp only [mem_lent, Finset.notMem_empty, iff_false]; rintro ⟨i, hi, h1, -⟩; exact h1 hi
/-- nor before anything starts. -/
theorem lent_empty (b : Bool) (D : Finset Hop) : lent b ∅ D = ∅ := by
  ext x; simp only [mem_lent, Finset.notMem_empty, false_and, exists_false]

end Cert.RingAttn

end
-- ==== Proof.Steps.lean ====
/-
# One effect at a time

`Triple c P p P' a` says that from `P` the program `p` of device `c` runs without fault to `P'` and returns `a`.
`St c S W D o` is what device `c` holds after starting the hops `S`, waiting for the arrivals of the hops `W` and for
the departures of the hops `D`, its result's block at `o`. One rule per kind of effect moves it.
-/
module

public import proofs.«01_k».proof.Proof.Protocol

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- No loop needs a bound. -/
abbrev 𝒱₀ : Variants := Variants.none

/-! ## Programs that return one value -/

/-- From `P` the program runs to `P'` and returns `a`. -/
def Triple (c : Dev nD) {α : Type} (P : sProp 𝕄) (p : Prog (TpuEff nD τ sig (Elt F) Λ₀ .tc) α) (P' : sProp 𝕄) (a : α) : Prop :=
  ∀ Q : α → sProp 𝕄, (P' ⊢ Q a) → P ⊢ wp frame (wpE (defs₀ (F := F)) 𝒱₀ (c : Thread nD τ) none) Set.univ p Q

section Rules

/-- One program after another, -/
theorem Triple.bind {c : Dev nD} {α β : Type} {P P' P₂ : sProp 𝕄} {p : Prog (TpuEff nD τ sig (Elt F) Λ₀ .tc) α} {k : α → Prog (TpuEff nD τ sig (Elt F) Λ₀ .tc) β} {a : α} {b : β}
    (hp : Triple c P p P₂ a) (hk : Triple c P₂ (k a) P' b) : Triple c P (p >>= k) P' b := fun Q hQ => by
  rw [wp_bind]
  exact hp _ (hk Q hQ)

/-- one that only returns, -/
theorem Triple.pure {c : Dev nD} {α : Type} {P : sProp 𝕄} (a : α) : Triple c P (Pure.pure a : Prog (TpuEff nD τ sig (Elt F) Λ₀ .tc) α) P a := fun Q hQ => by
  rw [wp_pure]
  exact hQ.trans fupd_intro

/-- an equal one, -/
theorem Triple.of_eq {c : Dev nD} {α : Type} {P P' : sProp 𝕄} {p q : Prog (TpuEff nD τ sig (Elt F) Λ₀ .tc) α} {a : α} (h : p = q) (hq : Triple c P q P' a) : Triple c P p P' a := h ▸ hq

/-- one from more to less, -/
theorem Triple.conseq {c : Dev nD} {α : Type} {P P' : sProp 𝕄} {p : Prog (TpuEff nD τ sig (Elt F) Λ₀ .tc) α} {a : α} {P₀ P₁ : sProp 𝕄} (h₀ : P ⊢ P₀) (h : Triple c P₀ p P₁ a) (h₁ : P₁ ⊢ P') :
    Triple c P p P' a := fun Q hQ => h₀.trans (h Q (h₁.trans hQ))

/-- and the device's own number. -/
theorem Triple.deviceId {c : Dev nD} {P : sProp 𝕄} : Triple c P (Prog.lift .deviceId : Prog (TpuEff nD τ sig (Elt F) Λ₀ .tc) (Dev nD)) P c := fun Q hQ => by
  show P ⊢ wp frame (wpE (defs₀ (F := F)) 𝒱₀ (c : Thread nD τ) none) Set.univ (.op .deviceId fun x => .ret x) Q
  rw [wp_deviceId, wp_ret]
  exact hQ.trans fupd_intro

end Rules

/-! ## What a landing leaves -/

/-- The element of the slots under an element of quarter `x`. -/
theorem qM_emb (x : Quart) (y : S64x512.Idx) (a : Fin 3) :
    (((qM x).view.emb y : KVIdx) a).val = (![x.1.val, 64 * x.2.val, 0] : Fin 3 → ℕ) a + (Shape.reshapeEquiv squeezes_S1x64x512_S64x512.numel_eq y a).val := by
  show (((Rect.unit (s := S16x256x512) ![x.1.val, 64 * x.2.val, 0] S1x64x512.size (inbQ x)).emb (Shape.reshapeEquiv squeezes_S1x64x512_S64x512.numel_eq y) : KVIdx) a).val = _
  rw [Rect.emb_apply]
  show _ + 1 * _ = _
  rw [one_mul]
  rfl

/-- The quarter read on the sender holds what the quarter written is to hold, -/
theorem kvfin_land (c : Dev nD) (j : Hop) (y : S64x512.Idx) :
    kvfin m ρ c ((qM (srcQ j)).view.emb y) = kvfin m ρ (tgt j c) ((qM (dstQ j)).view.emb y) := by
  have z0 : (Shape.reshapeEquiv squeezes_S1x64x512_S64x512.numel_eq y (0 : Fin 3)).val = 0 := by
    have h : (Shape.reshapeEquiv squeezes_S1x64x512_S64x512.numel_eq y (0 : Fin 3)).val < 1 := (Shape.reshapeEquiv squeezes_S1x64x512_S64x512.numel_eq y (0 : Fin 3)).isLt
    omega
  have hs : ((qM (srcQ j)).view.emb y : KVIdx) 0 = (srcQ j).1 := Fin.ext ((qM_emb (srcQ j) y 0).trans (by rw [z0]; rfl))
  have hd : ((qM (dstQ j)).view.emb y : KVIdx) 0 = (dstQ j).1 := Fin.ext ((qM_emb (dstQ j) y 0).trans (by rw [z0]; rfl))
  unfold kvfin
  rw [hs, hd, own_tgt j c]
  congr 1

/-- so that after the copy it does. -/
theorem landed (c : Dev nD) (j : Hop) (fd : S16x256x512.Idx → Elt F .bf16) (i : KVIdx) (hi : i ∈ qset (dstQ j)) :
    (qM (dstQ j)).view.write (Elt F) fd ((qM (srcQ j)).view.read (Elt F) (kvfin m ρ c)) Finset.univ i = kvfin m ρ (tgt j c) i := by
  obtain ⟨y, -, rfl⟩ := Finset.mem_map.mp hi
  rw [View.write_emb_of_mem _ _ (Finset.mem_univ y)]
  exact kvfin_land m ρ c j y

/-! ## What a device holds along the way -/

/-- What starting hop `j` takes. -/
def toSend (c : Dev nD) (j : Hop) : sProp 𝕄 :=
  iprop(dutyTok ER (sendCell c j) 0 false ∗ dutyTok ER (recvCell (tgt j c) j) 0 false ∗ landing j c)
/-- What waiting for hop `j`'s arrival takes. -/
def toRecv (c : Dev nD) (j : Hop) : sProp 𝕄 := iprop(cred (tallyAt (recvCell c j) () N) ∗ atPos ER (recvCell c j) 0 ∅ 0)

/-- The lending shares of one direction: of the quarters filled, those not lent. -/
def pool (c : Dev nD) (b : Bool) (S W D : Finset Hop) : sProp 𝕄 := pts m ρ c (poolShare b) (avail W \ lent b S D)
/-- The pools of both directions, -/
def pools (c : Dev nD) (S W D : Finset Hop) : sProp 𝕄 := iprop(pool m ρ c true S W D ∗ pool m ρ c false S W D)
/-- one of them first. -/
theorem pools_at (c : Dev nD) (b : Bool) (S W D : Finset Hop) : (pools m ρ c S W D : sProp 𝕄) ⊣⊢ iprop(pool m ρ c b S W D ∗ pool m ρ c (!b) S W D) := by
  unfold pools; cases b
  · exact sep_comm
  · exact ⟨.rfl, .rfl⟩

/-- The staged blocks and the closed barrier cell, the result's block at `o`. -/
def stagedIn (c : Dev nD) : sProp 𝕄 :=
  iprop(((c : Thread nD τ).loc cc0_stg0_0 ↦{fullShare} xstg m ρ c) ∗ ((c : Thread nD τ).loc cc0_stg1_0 ↦{fullShare} wqstg m ρ c)
    ∗ ((c : Thread nD τ).loc cc0_stg2_0 ↦{fullShare} wkstg m ρ c) ∗ ((c : Thread nD τ).loc cc0_stg3_0 ↦{fullShare} wvstg m ρ c)
    ∗ ((c : Thread nD τ).loc cc0_stg4_0 ↦{fullShare} wostg m ρ c))
/-- The result's block. -/
def outPt (c : Dev nD) (o : (cc0_stg5_0 : Ref sig .tc).ty.Contents (Elt F)) : sProp 𝕄 := (c : Thread nD τ).loc cc0_stg5_0 ↦{fullShare} o

variable (K : Names)

/-- What a device holds between two steps. -/
def St (c : Dev nD) (S W D : Finset Hop) (o : (cc0_stg5_0 : Ref sig .tc).ty.Contents (Elt F)) : sProp 𝕄 :=
  iprop(records m ρ K ∗ levAts L lv ∗ (∃ Wt, owes (c : Thread nD τ) (owedBy c S) Wt)
    ∗ bigSep (Finset.univ \ S) (toSend c)
    ∗ bigSep (S \ D) (fun j => cred (tallyAt (sendCell c j) () N))
    ∗ bigSep (Finset.univ \ D) (fun j => atPos ER (sendCell c j) 0 ∅ 0) ∗ bigSep D (fun j => atPos ER (sendCell c j) (0 + 1) ∅ 0)
    ∗ bigSep (Finset.univ \ W) (toRecv c) ∗ bigSep W (fun j => atPos ER (recvCell c j) (0 + 1) ∅ 0)
    ∗ pts m ρ c fullShare.left (avail W) ∗ pools m ρ c S W D
    ∗ stagedIn m ρ c ∗ outPt c o ∗ semVal (barCell c) 0)

/-- One hop more in what is held for a set of hops. -/
theorem bigSep_step {T : Finset Hop} {j : Hop} (h : j ∉ T) (Φ : Hop → sProp 𝕄) :
    bigSep (Finset.univ \ T) Φ = iprop(Φ j ∗ bigSep (Finset.univ \ insert j T) Φ) := by
  have hs : Finset.univ \ T = insert j (Finset.univ \ insert j T) := by
    ext i; simp only [Finset.mem_sdiff, Finset.mem_univ, true_and, Finset.mem_insert]
    by_cases e : i = j
    · subst e; simp [h]
    · simp [e]
  rw [hs, bigSep_insert (by simp)]; rfl

/-- The two spellings of holding both. -/
theorem eq_sep (P P' : sProp 𝕄) : BI.sep P P' = iprop(P ∗ P') := rfl

/-- A hop more among those started and not departed. -/
theorem insert_sdiff_of_notMem' {S D : Finset Hop} {j : Hop} (h : j ∉ D) : insert j S \ D = insert j (S \ D) := Finset.insert_sdiff_of_notMem S h

/-- Starting hop `j`. -/
theorem step_send {c : Dev nD} {S W D : Finset Hop} {o} (j : Hop) (hS : j ∉ S) (hD : j ∉ D) (hA : srcQ j ∈ avail W)
    {src : Memref sig .tc .vmem S64x512 .bf16} {n : Dev nD} {dst : Memref sig (Dev.tc n : Thread nD τ).2.kind .vmem S64x512 .bf16}
    {sS sR : DmaSem sig} {hsc : dst.view.ref.isScScratch = false} {hsrc : src.view.WordExact} {hdst : dst.view.WordExact}
    {hsem : DmaTarget.Typed .vmem (.dma sR) (.remote (Dev.tc n : Thread nD τ) dst (.dma sS) hsc)}
    (e₁ : src = qM (srcQ j)) (e₂ : n = tgt j c) (e₃ : dst = qM (dstQ j)) (e₄ : sS = dsem (false, j)) (e₅ : sR = dsem (true, j)) :
    Triple c (St m ρ K c S W D o) (Prog.lift (.enqueueDma src (.remote (Dev.tc n : Thread nD τ) dst (.dma sS) hsc) (.dma sR) hsrc hdst hsem))
      (St m ρ K c (insert j S) W D o) ⟨⟩ := fun Q hQ => by
  subst e₁ e₂ e₃ e₄ e₅
  refine Entails.trans ?_ (Entails.of_eq rfl)
  show _ ⊢ wp frame (wpE (defs₀ (F := F)) 𝒱₀ (c : Thread nD τ) none) Set.univ (.op _ fun x => .ret x) Q
  unfold St
  rw [bigSep_step hS]
  iintro ⟨#HK, #Hlev, ⟨%Wt, HO⟩, ⟨Hj, Hts⟩, Hcr, Has0, Has1, Hr0, Hr1, Hrd, Hpo, Hin, Hout, Hb⟩
  unfold toSend landing
  icases Hj with ⟨Ht1, Ht2, ⟨%fd, Hd⟩⟩
  ihave Hpo := (pools_at m ρ c (dirOf j) S W D).1 $$ Hpo
  icases Hpo with ⟨Hp, Hp'⟩
  unfold pool
  have hmem : srcQ j ∉ avail W \ lent (dirOf j) (insert j S) D := by
    rw [lent_start hD]; simp
  have hset : avail W \ lent (dirOf j) S D = insert (srcQ j) (avail W \ lent (dirOf j) (insert j S) D) := by
    rw [lent_start hD]
    ext x; simp only [Finset.mem_sdiff, Finset.mem_insert]
    by_cases e : x = srcQ j
    · subst e; simp [hA, src_notMem_lent hS]
    · simp [e]
  rw [hset]
  ihave Hp := (pts_insert m ρ c _ hmem).1 $$ Hp
  icases Hp with ⟨Hs, Hp⟩
  unfold pt
  iapply (Rounds.wp_send_pointsTo 𝒱₀ ER (ringRd m ρ) (c : Thread nD τ) none (κ₁ := K (c, some (false, j))) (κ₂ := K (tgt j c, some (true, j)))
    (src := qM (srcQ j)) (dst := qM (dstQ j)) (c' := (Dev.tc (tgt j c) : Thread nD τ)) (q := lendShare j) (fs := kvfin m ρ c)
    (r₁ := 0) (r₂ := 0) (d₁ := false) (d₂ := false) (fd := fd)
    (by rw [duties_xfer m ρ c (false, j)]; exact Finset.mem_singleton_self _) (by rw [duties_xfer m ρ (tgt j c) (true, j)]; exact Finset.mem_singleton_self _)
    () () N rfl (amount_xfer m ρ c (false, j) false) (amount_xfer m ρ (tgt j c) (true, j) false) (owedBy c (insert j S)) (owedBy_insert c hS) (W := Wt)
    (by rw [payload_xfer m ρ c (false, j)]; exact BI.Entails.refl _)
    (by
      rw [payload_xfer m ρ (tgt j c) (true, j)]
      exact Entails.of_eq (pointsTo_congr (landed m ρ c j fd)))) $$ [Hs Hd HO Ht1 Ht2]
  · isplitr; · iapply (inv_at m ρ K (c, some (false, j))); iexact HK
    isplitr; · iapply (inv_at m ρ K (tgt j c, some (true, j))); iexact HK
    isplitl [Hs]; · iexact Hs
    isplitl [Hd]; · iexact Hd
    isplitl [HO]; · iexact HO
    isplitl [Ht1]; · iexact Ht1
    isplitr; · iapply (reached_at m ρ K (c, some (false, j))); iexact HK
    isplitl [Ht2]; · iexact Ht2
    iapply (reached_at m ρ K (tgt j c, some (true, j))); iexact HK
  iintro ⟨Hc, HO⟩
  rw [wp_ret]; imodintro
  iapply hQ
  unfold St
  isplitr; · iexact HK
  isplitr; · iexact Hlev
  isplitl [HO]; · iexists Wt; iexact HO
  isplitl [Hts]; · iexact Hts
  isplitl [Hcr Hc]
  · rw [insert_sdiff_of_notMem' hD, bigSep_insert (by simp [hS]), eq_sep]
    isplitl [Hc] <;> iassumption
  isplitl [Has0]; · iexact Has0
  isplitl [Has1]; · iexact Has1
  isplitl [Hr0]; · iexact Hr0
  isplitl [Hr1]; · iexact Hr1
  isplitl [Hrd]; · iexact Hrd
  isplitl [Hp Hp']
  · iapply (pools_at m ρ c (dirOf j) (insert j S) W D).2
    unfold pool
    isplitl [Hp]; · iexact Hp
    rw [lent_start_other (b := !dirOf j) (S := S) (by cases dirOf j <;> decide)]
    iexact Hp'
  isplitl [Hin]; · iexact Hin
  isplitl [Hout] <;> iassumption

/-- Waiting on one of a hop's two semaphores. -/
theorem wp_wait_hop (c : Dev nD) (k : Bool × Hop) (O : CellTallies nD τ sig Unit) (W : Waits sig Unit)
    {src dst : Memref sig .tc .vmem S64x512 .bf16} {hsrc : src.view.WordExact} {hdst : dst.view.WordExact} (hN : dst.view.dmaCredit = N)
    {α : Type} {Q : α → sProp 𝕄} {g : PUnit → Prog (TpuEff nD τ sig (Elt F) Λ₀ .tc) α} :
    iprop(records m ρ K ∗ cred (tallyAt ((c : Thread nD τ), osem k) () N) ∗ owes (c : Thread nD τ) O W
        ∗ MayWait (c : Thread nD τ) (osem k) () O ∗ atPos ER ((c : Thread nD τ), osem k) 0 ∅ 0)
      ⊢ iprop(((owes (c : Thread nD τ) O (insert (osem k, ()) W) ∗ atPos ER ((c : Thread nD τ), osem k) (0 + 1) ∅ 0
            ∗ xferPay m ρ k c) -∗ wp frame (wpE (defs₀ (F := F)) 𝒱₀ (c : Thread nD τ) none) Set.univ (g ⟨⟩) Q)
          -∗ wp frame (wpE (defs₀ (F := F)) 𝒱₀ (c : Thread nD τ) none) Set.univ (.op (.waitDma2 (dsem k) src dst hsrc hdst) g) Q) := by
  iintro ⟨#HK, Hc, HO, HM, Hat⟩ Hk
  iapply (Rounds.wp_wait_rest_token 𝒱₀ ER (ringRd m ρ) (c : Thread nD τ) none (κ := K (c, some k))
      (wpE_waitDma2_eq 𝒱₀ (c : Thread nD τ) none Set.univ) (Set.mem_univ _) () (O := O) (W := W) (R := 0) (m := 0) (T := ∅)
      (by rw [Nat.zero_add, hN, expect_xfer m ρ c k])) $$ [Hc HO HM Hat]
  · isplitr; · iapply (inv_at m ρ K (c, some k)); iexact HK
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_xfer m ρ c k)); iexact Hpay

/-- The full share of a quarter and its three parts. -/
theorem pt_parts (c : Dev nD) (x : Quart) : (pt m ρ c fullShare x : sProp 𝕄)
    ⊣⊢ iprop(pt m ρ c fullShare.left x ∗ pt m ρ c (poolShare true) x ∗ pt m ρ c (poolShare false) x) := by
  have h1 : (pt m ρ c fullShare x : sProp 𝕄) ⊣⊢ iprop(pt m ρ c fullShare.left x ∗ pt m ρ c fullShare.right x) :=
    pointsTo_share (PosShare.mem_left_op_right fullShare)
  have h2 : (pt m ρ c fullShare.right x : sProp 𝕄) ⊣⊢ iprop(pt m ρ c fullShare.right.left x ∗ pt m ρ c fullShare.right.right x) :=
    pointsTo_share (PosShare.mem_left_op_right fullShare.right)
  exact ⟨h1.1.trans (sep_mono_right h2.1), (sep_mono_right h2.2).trans h1.2⟩

/-- An arrival adds nothing that is lent. -/
theorem lent_sdiff_insert {b : Bool} {S W D : Finset Hop} {j : Hop} (h : ∀ i ∈ S, srcQ i ≠ dstQ j) :
    avail (insert j W) \ lent b S D = insert (dstQ j) (avail W \ lent b S D) := by
  rw [avail_insert]
  ext x; simp only [Finset.mem_sdiff, Finset.mem_insert]
  by_cases e : x = dstQ j
  · subst e
    simp only [true_or, true_and, iff_true]
    rw [mem_lent]; rintro ⟨i, hi, -, -, h3⟩; exact h i hi h3
  · simp [e]

/-- Waiting for the arrival of hop `j`. -/
theorem step_recv {c : Dev nD} {S W D : Finset Hop} {o} (j : Hop) (hW : j ∉ W) (hL : ∀ i ∈ S, srcQ i ≠ dstQ j) (hO : ∀ i, i ∉ S → hopNo j < hopNo i)
    {src dst : Memref sig .tc .vmem S64x512 .bf16} {s : DmaSem sig} {hsrc : src.view.WordExact} {hdst : dst.view.WordExact}
    (e₁ : s = dsem (true, j)) (hN : dst.view.dmaCredit = N) :
    Triple c (St m ρ K c S W D o) (Prog.lift (.waitDma2 s src dst hsrc hdst)) (St m ρ K c S (insert j W) D o) ⟨⟩ := fun Q hQ => by
  subst e₁
  show _ ⊢ wp frame (wpE (defs₀ (F := F)) 𝒱₀ (c : Thread nD τ) none) Set.univ (.op _ fun x => .ret x) Q
  unfold St
  rw [bigSep_step hW]
  iintro ⟨#HK, #Hlev, ⟨%Wt, HO⟩, Hts, Hcr, Has0, Has1, ⟨Hj, Hr0⟩, Hr1, Hrd, Hpo, Hin, Hout, Hb⟩
  unfold toRecv
  icases Hj with ⟨Hc, Hat⟩
  iapply (wp_wait_hop m ρ K c (true, j) (owedBy c S) Wt hN) $$ [Hc Hat HO]
  · isplitr; · iexact HK
    isplitl [Hc]; · iexact Hc
    isplitl [HO]; · iexact HO
    isplitr
    · iapply (mayWait_owed c (osem (true, j)) S fun i hi => by rw [semLv_recv]; have := hO i hi; omega); iexact Hlev
    iexact Hat
  iintro ⟨HO, Hat, Hpay⟩
  ihave Hpay := (Entails.of_eq (show xferPay m ρ (true, j) c = pt m ρ c fullShare (dstQ j) from rfl)) $$ Hpay
  ihave Hpay := (pt_parts m ρ c (dstQ j)).1 $$ Hpay
  icases Hpay with ⟨H1, H2, H3⟩
  rw [wp_ret]; imodintro
  iapply hQ
  unfold St
  isplitr; · iexact HK
  isplitr; · iexact Hlev
  isplitl [HO]; · iexists _; iexact HO
  isplitl [Hts]; · iexact Hts
  isplitl [Hcr]; · iexact Hcr
  isplitl [Has0]; · iexact Has0
  isplitl [Has1]; · iexact Has1
  isplitl [Hr0]; · iexact Hr0
  isplitl [Hr1 Hat]
  · rw [bigSep_insert hW, eq_sep]
    isplitl [Hat] <;> iassumption
  isplitl [Hrd H1]
  · rw [avail_insert]
    iapply (pts_insert m ρ c _ (dst_notMem_avail hW)).2
    isplitl [H1] <;> iassumption
  isplitl [Hpo H2 H3]
  · unfold pools pool
    icases Hpo with ⟨Ha, Hb⟩
    have hn : ∀ b, dstQ j ∉ avail W \ lent b S D := fun b h => dst_notMem_avail hW (Finset.mem_sdiff.mp h).1
    rw [lent_sdiff_insert hL, lent_sdiff_insert hL]
    isplitl [Ha H2]
    · iapply (pts_insert m ρ c _ (hn true)).2; isplitl [H2] <;> iassumption
    · iapply (pts_insert m ρ c _ (hn false)).2; isplitl [H3] <;> iassumption
  isplitl [Hin]; · iexact Hin
  isplitl [Hout] <;> iassumption

/-- Waiting for the departure of hop `j`, everything started. -/
theorem step_sent {c : Dev nD} {W D : Finset Hop} {o} (j : Hop) (hD : j ∉ D) (hA : srcQ j ∈ avail W)
    {src dst : Memref sig .tc .vmem S64x512 .bf16} {s : DmaSem sig} {hsrc : src.view.WordExact} {hdst : dst.view.WordExact}
    (e₁ : s = dsem (false, j)) (hN : dst.view.dmaCredit = N) :
    Triple c (St m ρ K c Finset.univ W D o) (Prog.lift (.waitDma2 s src dst hsrc hdst)) (St m ρ K c Finset.univ W (insert j D) o) ⟨⟩ := fun Q hQ => by
  subst e₁
  show _ ⊢ wp frame (wpE (defs₀ (F := F)) 𝒱₀ (c : Thread nD τ) none) Set.univ (.op _ fun x => .ret x) Q
  unfold St
  rw [bigSep_step hD, bigSep_step hD]
  iintro ⟨#HK, #Hlev, ⟨%Wt, HO⟩, Hts, ⟨Hc, Hcr⟩, ⟨Hat, Has0⟩, Has1, Hr0, Hr1, Hrd, Hpo, Hin, Hout, Hb⟩
  iapply (wp_wait_hop m ρ K c (false, j) (owedBy c Finset.univ) Wt hN) $$ [Hc Hat HO]
  · isplitr; · iexact HK
    isplitl [Hc]; · iexact Hc
    isplitl [HO]; · iexact HO
    isplitr
    · rw [owedBy_univ, MayWait_zero]; iempintro
    iexact Hat
  iintro ⟨HO, Hat, Hpay⟩
  ihave Hpay := (Entails.of_eq (show xferPay m ρ (false, j) c = pt m ρ c (poolShare (dirOf j)) (srcQ j) from rfl)) $$ Hpay
  rw [wp_ret]; imodintro
  iapply hQ
  unfold St
  isplitr; · iexact HK
  isplitr; · iexact Hlev
  isplitl [HO]; · iexists _; iexact HO
  isplitl [Hts]; · iexact Hts
  isplitl [Hcr]; · iexact Hcr
  isplitl [Has0]; · iexact Has0
  isplitl [Has1 Hat]
  · rw [bigSep_insert hD, eq_sep]
    isplitl [Hat] <;> iassumption
  isplitl [Hr0]; · iexact Hr0
  isplitl [Hr1]; · iexact Hr1
  isplitl [Hrd]; · iexact Hrd
  isplitl [Hpo Hpay]
  · ihave Hpo := (pools_at m ρ c (dirOf j) Finset.univ W D).1 $$ Hpo
    icases Hpo with ⟨Hp, Hp'⟩
    iapply (pools_at m ρ c (dirOf j) Finset.univ W (insert j D)).2
    unfold pool
    have hmem : srcQ j ∉ avail W \ lent (dirOf j) Finset.univ D := by
      rw [lent_done (Finset.mem_univ j) hD]; simp
    have hset : avail W \ lent (dirOf j) Finset.univ (insert j D) = insert (srcQ j) (avail W \ lent (dirOf j) Finset.univ D) := by
      rw [lent_done (Finset.mem_univ j) hD]
      ext x; simp only [Finset.mem_sdiff, Finset.mem_insert]
      by_cases e : x = srcQ j
      · subst e; simp [hA, src_notMem_lent_done]
      · simp [e]
    rw [hset, lent_done_other (b := !dirOf j) (S := Finset.univ) (D := D) (j := j) (by cases dirOf j <;> decide)]
    isplitl [Hp Hpay]
    · iapply (pts_insert m ρ c _ hmem).2; isplitl [Hpay] <;> iassumption
    iexact Hp'
  isplitl [Hin]; · iexact Hin
  isplitl [Hout] <;> iassumption

end Cert.RingAttn

end
-- ==== Proof.Counters.lean ====
/-
# The program's order of hops

The hops are started, and their arrivals waited for, in one order: quarter by quarter within a group, right before
left. `rank j` is hop `j`'s place in it. After `a` starts and `b` arrivals device `c` is at `At c a b o`; the loads of
the slots that lie between change nothing.
-/
module

public import proofs.«01_k».proof.Proof.Steps

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The order -/

/-- The hop started (and waited for) as the `n`-th. -/
def seqHop (n : ℕ) : Hop := Fin.ofNat 60 (if n < 56 then (if n % 2 = 0 then n / 2 else 32 + n / 2) else n - 28)
/-- The place of a hop in the order. -/
def rank (j : Hop) : ℕ := if j.val < 28 then 2 * j.val else if j.val < 32 then j.val + 28 else 2 * (j.val - 32) + 1

/-- The `n`-th hop started has rank `n`, -/
theorem rank_seqHop : ∀ n : Fin 60, rank (seqHop n.val) = n.val := by decide +kernel
/-- a hop is the one of its rank, -/
theorem seqHop_rank : ∀ j : Hop, seqHop (rank j) = j := by decide +kernel
/-- and its rank is below sixty. -/
theorem rank_lt : ∀ j : Hop, rank j < 60 := by decide +kernel

/-- The first `a` hops of the order. -/
def started (a : ℕ) : Finset Hop := Finset.univ.filter fun j => rank j < a
/-- The first `d` hops by number, the order the departures are waited for. -/
def departed (d : ℕ) : Finset Hop := Finset.univ.filter fun j => j.val < d

/-- The hops started are those of a lower rank, -/
theorem mem_started {a : ℕ} {j : Hop} : j ∈ started a ↔ rank j < a := by unfold started; simp
/-- the hops departed those of a lower number. -/
theorem mem_departed {d : ℕ} {j : Hop} : j ∈ departed d ↔ j.val < d := by unfold departed; simp
/-- The next hop has not been started; -/
theorem seqHop_notMem {n : ℕ} (hn : n < 60) : seqHop n ∉ started n := by
  rw [mem_started, rank_seqHop ⟨n, hn⟩]; exact Nat.lt_irrefl _
/-- starting it is one hop more. -/
theorem started_succ {n : ℕ} (hn : n < 60) : insert (seqHop n) (started n) = started (n + 1) := by
  ext j; rw [Finset.mem_insert, mem_started, mem_started]
  constructor
  · rintro (rfl | h)
    · rw [rank_seqHop ⟨n, hn⟩]; exact Nat.lt_succ_self n
    · omega
  · intro h
    rcases Nat.lt_succ_iff_lt_or_eq.mp h with h | h
    · exact Or.inr h
    · exact Or.inl (by rw [← h, seqHop_rank])
/-- At first no hop has been started, -/
theorem started_zero : started 0 = ∅ := by ext j; rw [mem_started]; simp
/-- at last every one; -/
theorem started_all : started 60 = Finset.univ := by ext j; rw [mem_started]; simp [rank_lt]
/-- at first no hop has departed, -/
theorem departed_zero : departed 0 = ∅ := by ext j; rw [mem_departed]; simp
/-- at last every one. -/
theorem departed_all : departed 60 = Finset.univ := by ext j; rw [mem_departed]; simp
/-- One departure more. -/
theorem departed_succ {d : ℕ} (hd : d < 60) : insert (⟨d, hd⟩ : Hop) (departed d) = departed (d + 1) := by
  ext j; rw [Finset.mem_insert, mem_departed, mem_departed, Fin.ext_iff]
  show j.val = d ∨ _ ↔ _
  omega

/-- How many arrivals it takes to fill slot `s`. -/
def slotRank (s : Fin 16) : ℕ := if s.val = 0 then 0 else if s.val < 8 then 8 * s.val - 1 else if s.val = 8 then 60 else 8 * (16 - s.val)
/-- Every quarter of a slot but the own is filled by a hop of a rank below the slot's. -/
theorem slot_filled : ∀ s : Fin 16, s ≠ 0 → ∀ q : Fin 4, ∃ j : Hop, rank j < slotRank s ∧ dstQ j = (s, q) := by decide +kernel
/-- So a slot can be read once the hops below its rank have arrived. -/
theorem mem_avail_of_slot {b : ℕ} {s : Fin 16} (h : slotRank s ≤ b) (q : Fin 4) : (s, q) ∈ avail (started b) := by
  unfold avail
  rw [Finset.mem_union, Finset.mem_filter, Finset.mem_image]
  by_cases h0 : s = 0
  · exact Or.inl ⟨Finset.mem_univ _, h0⟩
  · obtain ⟨j, hj, e⟩ := slot_filled s h0 q
    exact Or.inr ⟨j, mem_started.mpr (by omega), e⟩

/-! ## The states and their rules -/

variable (K : Names)

/-- After `a` starts and `b` arrivals. -/
def At (c : Dev nD) (a b : ℕ) (o : (cc0_stg5_0 : Ref sig .tc).ty.Contents (Elt F)) : sProp 𝕄 := St m ρ K c (started a) (started b) ∅ o
/-- Everything started and arrived, `d` departures waited for. -/
def Done (c : Dev nD) (d : ℕ) (o : (cc0_stg5_0 : Ref sig .tc).ty.Contents (Elt F)) : sProp 𝕄 := St m ρ K c Finset.univ Finset.univ (departed d) o

/-- Starting the next hop. -/
theorem At_send {c : Dev nD} {n b : ℕ} {o} (hc : n < 60 ∧ slotRank (srcQ (seqHop n)).1 ≤ b + 7 ∧ (slotRank (srcQ (seqHop n)).1 ≤ b ∨ ∃ j : Hop, rank j < b ∧ dstQ j = srcQ (seqHop n)))
    {src : Memref sig .tc .vmem S64x512 .bf16} {t : Dev nD} {dst : Memref sig (Dev.tc t : Thread nD τ).2.kind .vmem S64x512 .bf16}
    {sS sR : DmaSem sig} {hsc : dst.view.ref.isScScratch = false} {hsrc : src.view.WordExact} {hdst : dst.view.WordExact}
    {hsem : DmaTarget.Typed .vmem (.dma sR) (.remote (Dev.tc t : Thread nD τ) dst (.dma sS) hsc)}
    (e₁ : src = qM (srcQ (seqHop n))) (e₂ : t = tgt (seqHop n) c) (e₃ : dst = qM (dstQ (seqHop n)))
    (e₄ : sS = dsem (false, seqHop n)) (e₅ : sR = dsem (true, seqHop n)) :
    Triple c (At m ρ K c n b o) (Prog.lift (.enqueueDma src (.remote (Dev.tc t : Thread nD τ) dst (.dma sS) hsc) (.dma sR) hsrc hdst hsem))
      (At m ρ K c (n + 1) b o) ⟨⟩ := by
  unfold At
  rw [← started_succ hc.1]
  refine step_send m ρ K (seqHop n) (seqHop_notMem hc.1) (Finset.notMem_empty _) ?_ e₁ e₂ e₃ e₄ e₅
  rcases hc.2.2 with h | ⟨j, hj, e⟩
  · exact mem_avail_of_slot h _
  · rw [← e]; exact Finset.mem_union_right _ (Finset.mem_image_of_mem _ (mem_started.mpr hj))

/-- Waiting for the next arrival. -/
theorem At_recv {c : Dev nD} {a n : ℕ} {o}
    (hc : n < 60 ∧ (∀ i : Hop, rank i < a → srcQ i ≠ dstQ (seqHop n)) ∧ ∀ i : Hop, ¬ rank i < a → hopNo (seqHop n) < hopNo i)
    {src dst : Memref sig .tc .vmem S64x512 .bf16} {s : DmaSem sig} {hsrc : src.view.WordExact} {hdst : dst.view.WordExact}
    (e₁ : s = dsem (true, seqHop n)) (hN : dst.view.dmaCredit = N) :
    Triple c (At m ρ K c a n o) (Prog.lift (.waitDma2 s src dst hsrc hdst)) (At m ρ K c a (n + 1) o) ⟨⟩ := by
  unfold At
  rw [← started_succ hc.1]
  exact step_recv m ρ K (seqHop n) (seqHop_notMem hc.1) (fun i hi => hc.2.1 i (mem_started.mp hi))
    (fun i hi => hc.2.2 i (fun h => hi (mem_started.mpr h))) e₁ hN

/-- Waiting for the next departure. -/
theorem Done_sent {c : Dev nD} {d : ℕ} {o} (hd : d < 60)
    {src dst : Memref sig .tc .vmem S64x512 .bf16} {s : DmaSem sig} {hsrc : src.view.WordExact} {hdst : dst.view.WordExact}
    (e₁ : s = dsem (false, ⟨d, hd⟩)) (hN : dst.view.dmaCredit = N) :
    Triple c (Done m ρ K c d o) (Prog.lift (.waitDma2 s src dst hsrc hdst)) (Done m ρ K c (d + 1) o) ⟨⟩ := by
  unfold Done
  rw [← departed_succ hd]
  exact step_sent m ρ K ⟨d, hd⟩ (by rw [mem_departed]; exact Nat.lt_irrefl _) (by rw [avail_univ]; exact Finset.mem_univ _) e₁ hN

/-- What a load of 128 rows by 64 columns of the slots reads, once they are filled. -/
def kvblk (c : Dev nD) (o : Fin 3 → ℕ) (inb : ∀ a, o a + S1x128x64.size a ≤ S16x256x512.size a) : Vec F S1x128x64 .bf16 :=
  kvM.view.readAt (Elt F) (Rect.unit (s := S16x256x512) o S1x128x64.size inb).toLoadRect (kvfin m ρ c)

/-- Loading a block of a slot that has arrived. -/
theorem At_load {c : Dev nD} {a b : ℕ} {o} {s r col : ℕ} {inb : ∀ a, (![s, r, col] : Fin 3 → ℕ) a + S1x128x64.size a ≤ S16x256x512.size a}
    {hl : kvM.view.LoadsAt (Rect.unit (s := S16x256x512) ![s, r, col] S1x128x64.size inb).toLoadRect} (hs : slotRank (Fin.ofNat 16 s) ≤ b) :
    Triple c (At m ρ K c a b o) (Prog.lift (.load kvM (Rect.unit (s := S16x256x512) ![s, r, col] S1x128x64.size inb).toLoadRect hl))
      (At m ρ K c a b o) (kvblk m ρ c ![s, r, col] inb) := fun Q hQ => by
  show _ ⊢ wp frame (wpE (defs₀ (F := F)) 𝒱₀ (c : Thread nD τ) none) Set.univ (.op _ fun x => .ret x) Q
  have h16 : s < 16 := by have := inb 0; change s + 1 ≤ 16 at this; omega
  unfold At at hQ ⊢
  unfold St at hQ ⊢
  iintro ⟨#HK, #Hlev, HO, Hts, Hcr, Has0, Has1, Hr0, Hr1, Hrd, Hrest⟩
  unfold pts
  iapply (wp_load 𝒱₀ (c : Thread nD τ) none Set.univ (m := kvM) (S := qsets (avail (started b))) (q := fullShare.left) (f := kvfin m ρ c) (by
    intro i hi
    rw [mem_qsets]
    have hi' : i ∈ (Rect.unit (s := S16x256x512) ![s, r, col] S1x128x64.size inb).set := by
      have h : kvM.view.emb i ∈ kvM.view.setOn (Rect.unit (s := S16x256x512) ![s, r, col] S1x128x64.size inb).set := hi
      exact (View.mem_setOn _).mp h
    have h0 := (Rect.mem_set_unit.mp hi') 0
    change s ≤ (i 0).val ∧ (i 0).val < s + 1 at h0
    have hq : quartOf i = (Fin.ofNat 16 s, (quartOf i).2) := Prod.ext (Fin.ext (by
      show (i 0).val = s % 16
      omega)) rfl
    rw [hq]
    exact mem_avail_of_slot hs _)) $$ Hrd
  iintro Hrd
  rw [wp_ret]; imodintro
  unfold pts kvblk at hQ
  iapply hQ
  isplitr; · iexact HK
  isplitr; · iexact Hlev
  isplitl [HO]; · iexact HO
  isplitl [Hts]; · iexact Hts
  isplitl [Hcr]; · iexact Hcr
  isplitl [Has0]; · iexact Has0
  isplitl [Has1]; · iexact Has1
  isplitl [Hr0]; · iexact Hr0
  isplitl [Hr1]; · iexact Hr1
  isplitl [Hrd]; · iexact Hrd
  iexact Hrest

/-! ## The staged blocks -/

/-- A load from a buffer held in full. -/
theorem load_held {c : Dev nD} {P R : sProp 𝕄} {s : Shape} {e : EltTy} {M : Memref sig .tc .vmem s e} {r : LoadRect s} {hl : M.view.LoadsAt r}
    {f : M.view.ty.Contents (Elt F)} {v : r.shape.Idx → Elt F e} (hv : M.view.readAt (Elt F) r f = v)
    (hP : P ⊣⊢ iprop((M.view.loc (c : Thread nD τ) ↦{fullShare} f) ∗ R)) :
    Triple c P (Prog.lift (.load M r hl)) P v := fun Q hQ => by
  show _ ⊢ wp frame (wpE (defs₀ (F := F)) 𝒱₀ (c : Thread nD τ) none) Set.univ (.op _ fun x => .ret x) Q
  refine hP.1.trans ?_
  iintro ⟨H, HR⟩
  iapply (wp_load 𝒱₀ (c : Thread nD τ) none Set.univ (m := M) (Finset.subset_univ _)) $$ H
  iintro H
  rw [hv, wp_ret]; imodintro
  iapply hQ
  iapply hP.2
  isplitl [H] <;> iassumption

/-- A store of the whole of a buffer held in full. -/
theorem store_held {c : Dev nD} {P P' R : sProp 𝕄} {s : Shape} {e : EltTy} {M : Memref sig .tc .vmem s e} {r : Rect s} {w : r.shape.Idx → Elt F e}
    {hx : (M.access r).Stores Finset.univ} {hm : Finset.univ = Finset.univ ∨ ∀ a, r.stride a = 1}
    {f g : M.view.ty.Contents (Elt F)} (hv : (M.access r).write (Elt F) f w Finset.univ = g)
    (hP : P ⊢ iprop((M.view.loc (c : Thread nD τ) ↦{fullShare} f) ∗ R)) (hP' : iprop((M.view.loc (c : Thread nD τ) ↦{fullShare} g) ∗ R) ⊢ P') :
    Triple c P (Prog.lift (.store M r w Finset.univ hx hm)) P' ⟨⟩ := fun Q hQ => by
  show _ ⊢ wp frame (wpE (defs₀ (F := F)) 𝒱₀ (c : Thread nD τ) none) Set.univ (.op _ fun x => .ret x) Q
  refine hP.trans ?_
  iintro ⟨H, HR⟩
  iapply (wp_store 𝒱₀ (c : Thread nD τ) none Set.univ (m := M) (r := r) (Mk := Finset.univ) (S := Finset.univ) (f := f) (Finset.subset_univ _)) $$ H
  iintro H
  rw [hv, wp_ret]; imodintro
  iapply hQ
  iapply hP'
  isplitl [H] <;> iassumption

/-- The state with the result's block set apart. -/
theorem St_out {c : Dev nD} {S W D : Finset Hop} : ∃ R : sProp 𝕄, ∀ o, (St m ρ K c S W D o : sProp 𝕄) ⊣⊢ iprop(outPt c o ∗ R) := by
  refine ⟨iprop(records m ρ K ∗ levAts L lv ∗ (∃ Wt, owes (c : Thread nD τ) (owedBy c S) Wt)
    ∗ bigSep (Finset.univ \ S) (toSend c)
    ∗ bigSep (S \ D) (fun j => cred (tallyAt (sendCell c j) () N))
    ∗ bigSep (Finset.univ \ D) (fun j => atPos ER (sendCell c j) 0 ∅ 0) ∗ bigSep D (fun j => atPos ER (sendCell c j) (0 + 1) ∅ 0)
    ∗ bigSep (Finset.univ \ W) (toRecv c) ∗ bigSep W (fun j => atPos ER (recvCell c j) (0 + 1) ∅ 0)
    ∗ pts m ρ c fullShare.left (avail W) ∗ pools m ρ c S W D
    ∗ stagedIn m ρ c ∗ semVal (barCell c) 0), fun o => ⟨?_, ?_⟩⟩
  · unfold St
    iintro ⟨H1, H2, H3, H4, H5, H6, H7, H8, H9, H10, H11, H12, Ho, H13⟩
    iframe
  · unfold St
    iintro ⟨Ho, H1, H2, H3, H4, H5, H6, H7, H8, H9, H10, H11, H12, H13⟩
    iframe

end Cert.RingAttn

end
-- ==== Proof.Prologue.lean ====
/-
# The first steps

A device computes its rotated queries, keys and values, stores keys and values in its slot 0, tells its two neighbours
that it is ready, and waits for the same from both. What it hands a neighbour is where that neighbour's hops land.
-/
module

public import proofs.«01_k».proof.Proof.Counters

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The slots after the store -/

/-- The quarters of slot 0. -/
abbrev slot0 : Finset Quart := Finset.univ.filter fun x => x.1 = 0
/-- At first only the own slot can be read. -/
theorem avail_empty : avail ∅ = slot0 := by unfold avail; rw [Finset.image_empty, Finset.union_empty]

/-- What the store of the keys and values leaves in the slots. -/
def stored (c : Dev nD) (f : (cc0_scratch0 : Ref sig .tc).ty.Contents (Elt F)) : S16x256x512.Idx → Elt F .bf16 :=
  (kvM.access (Rect.unit (s := S16x256x512) ![0, 0, 0] S1x256x512.size inb_S16x256x512_S1x256x512_0_0_0)).write (Elt F) f (kvP m ρ c) Finset.univ

/-- The own slot holds what it is to hold. -/
theorem stored_slot0 (c : Dev nD) (f) (i : KVIdx) (hi : (i 0).val = 0) : stored m ρ c f i = kvfin m ρ c i := by
  have e : i = (kvM.access (Rect.unit (s := S16x256x512) ![0, 0, 0] S1x256x512.size inb_S16x256x512_S1x256x512_0_0_0)).emb (inSlot i) := by
    funext a
    refine Fin.ext ?_
    show (i a).val = ((Rect.unit (s := S16x256x512) ![0, 0, 0] S1x256x512.size inb_S16x256x512_S1x256x512_0_0_0).emb (inSlot i) a).val
    rw [Rect.emb_apply]
    fin_cases a
    · show (i 0).val = 0 + 1 * 0; rw [hi]
    · show (i 1).val = 0 + 1 * (i 1).val; omega
    · show (i 2).val = 0 + 1 * (i 2).val; omega
  have h0 : i 0 = (0 : Fin 16) := Fin.ext hi
  unfold kvfin
  rw [h0, own_zero]
  unfold stored
  conv_lhs => rw [e]
  rw [View.write_emb_of_mem _ _ (Finset.mem_univ _)]
  rfl

/-- What the barrier hands over is where the hops of the neighbour on that side land. -/
theorem landing_frm (c : Dev nD) (b : Bool) : (barPay b (if b then prv c else nxt c) : sProp 𝕄)
    = bigSep (hopsOf b) fun j => iprop(∃ f, kvLoc c ↦[qset (dstQ j)]{fullShare} f) := by
  unfold barPay
  refine bigSep_congr fun j hj => ?_
  have hd : dirOf j = b := (Finset.mem_filter.mp hj).2
  unfold landing
  have ht : tgt j (if b then prv c else nxt c) = c := by
    rw [← hd]
    by_cases h : j.val < 32
    · rw [if_pos (by simpa using h)]; unfold tgt; rw [if_pos h, nxt_prv]
    · rw [if_neg (by simpa using h)]; unfold tgt; rw [if_neg h, prv_nxt]
  rw [ht]

/-- The hops by direction. -/
theorem hops_split (Φ : Hop → sProp 𝕄) : bigSep Finset.univ Φ = iprop(bigSep (hopsOf true) Φ ∗ bigSep (hopsOf false) Φ) := by
  have h : (Finset.univ : Finset Hop) = hopsOf true ∪ hopsOf false := by
    ext j; unfold hopsOf; simp only [Finset.mem_univ, Finset.mem_union, Finset.mem_filter, true_and]; cases dirOf j <;> simp
  rw [h, bigSep_union (Finset.disjoint_left.mpr fun j h1 h2 => by
    unfold hopsOf at h1 h2
    rw [Finset.mem_filter] at h1 h2
    exact absurd (h1.2.symm.trans h2.2) (by decide))]
  rfl

/-- The slots after the store: slot 0 filled, in its three shares, and the places of the hops to come. -/
theorem slots_split (c : Dev nD) (f) : (kvLoc c ↦{fullShare} stored m ρ c f : sProp 𝕄)
    ⊢ iprop((pts m ρ c fullShare.left slot0 ∗ pts m ρ c (poolShare true) slot0 ∗ pts m ρ c (poolShare false) slot0)
      ∗ barPay true (prv c) ∗ barPay false (nxt c)) := by
  have hU : (Finset.univ : Finset KVIdx) = qsets slot0 ∪ (Finset.univ : Finset Hop).biUnion (fun j => qset (dstQ j)) := by
    ext i
    simp only [Finset.mem_univ, Finset.mem_union, true_iff, mem_qsets, Finset.mem_filter, true_and, Finset.mem_biUnion]
    by_cases h : (quartOf i).1 = 0
    · exact Or.inl h
    · obtain ⟨j, hj⟩ := dstQ_surj _ h
      exact Or.inr ⟨j, by rw [hj, mem_qset]; exact ⟨rfl, rfl⟩⟩
  have hD : Disjoint (qsets slot0) ((Finset.univ : Finset Hop).biUnion fun j => qset (dstQ j)) :=
    Finset.disjoint_left.mpr fun i h1 h2 => by
      rw [mem_qsets, Finset.mem_filter] at h1
      obtain ⟨j, -, h2⟩ := Finset.mem_biUnion.mp h2
      rw [mem_qset] at h2
      exact dstQ_slot j (Fin.ext (h2.1.symm.trans (congrArg Fin.val h1.2)))
  have hB : (kvLoc c ↦[(Finset.univ : Finset Hop).biUnion fun j => qset (dstQ j)]{fullShare} stored m ρ c f : sProp 𝕄)
      = bigSep Finset.univ fun j => kvLoc c ↦[qset (dstQ j)]{fullShare} stored m ρ c f := pointsTo_biUnion _ _
    (fun i _ j _ h => qset_disjoint fun e => h (dstQ_inj e))
  refine (Entails.of_eq (show (kvLoc c ↦{fullShare} stored m ρ c f : sProp 𝕄) = kvLoc c ↦[Finset.univ]{fullShare} stored m ρ c f from rfl)).trans ?_
  rw [hU]
  refine (pointsTo_union hD).1.trans (BIClass.sep_mono ?_ ?_)
  · refine (Entails.of_eq (pointsTo_congr fun i hi => stored_slot0 m ρ c f i ?_)).trans ?_
    · rw [mem_qsets, Finset.mem_filter] at hi
      exact congrArg Fin.val hi.2
    · exact (pointsTo_share (PosShare.mem_left_op_right fullShare)).1.trans
        (sep_mono_right (pointsTo_share (PosShare.mem_left_op_right fullShare.right)).1)
  · rw [hB, hops_split]
    have hl : ∀ b, (bigSep (hopsOf b) (fun j => kvLoc c ↦[qset (dstQ j)]{fullShare} stored m ρ c f) : sProp 𝕄) ⊢ barPay b (if b then prv c else nxt c) := fun b => by
      rw [landing_frm]
      exact bigSep_mono fun j _ => by
        show (kvLoc c ↦[qset (dstQ j)]{fullShare} stored m ρ c f : sProp 𝕄) ⊢ iprop(∃ f, kvLoc c ↦[qset (dstQ j)]{fullShare} f)
        iintro H; iexists _; iexact H
    exact BIClass.sep_mono (hl true) (hl false)

/-! ## The start -/

variable (K : Names)

/-- What a device holds when its body starts. -/
def Start (c : Dev nD) (o : (cc0_stg5_0 : Ref sig .tc).ty.Contents (Elt F)) : sProp 𝕄 :=
  iprop(records m ρ K ∗ levAts L lv ∗ (∃ Wt, owes (c : Thread nD τ) (O₀ c) Wt)
    ∗ (dutyTok ER (barCell (prv c)) 0 true ∗ dutyTok ER (barCell (nxt c)) 0 false ∗ cred (tallyAt (barCell c) () 2) ∗ atPos ER (barCell c) 0 ∅ 0)
    ∗ bigSep Finset.univ (fun j => iprop(dutyTok ER (sendCell c j) 0 false ∗ dutyTok ER (recvCell (tgt j c) j) 0 false))
    ∗ bigSep Finset.univ (fun j => atPos ER (sendCell c j) 0 ∅ 0)
    ∗ bigSep Finset.univ (toRecv c)
    ∗ (∃ f : (cc0_scratch0 : Ref sig .tc).ty.Contents (Elt F), kvLoc c ↦{fullShare} f)
    ∗ stagedIn m ρ c ∗ outPt c o)

/-- The first signal goes to the left neighbour, -/
theorem dev1_eq (c : Dev nD) : (⟨k0_dev1 c, k0_dev1_lt c⟩ : Dev nD) = prv c := by revert c; decide +kernel
/-- the second to the right one. -/
theorem dev2_eq (c : Dev nD) : (⟨k0_dev2 c, k0_dev2_lt c⟩ : Dev nD) = nxt c := by revert c; decide +kernel

set_option maxRecDepth 65536 in
/-- The store of keys and values and the barrier. -/
theorem run_part5 (c : Dev nD) (o) (v52 v79 : BitVec 32) (v87 v91 v95 v141 v142 v152 v160 cst v161)
    (hkv : k0_pay17 v91 v95 v141 v142 v152 v160 cst v161 = kvP m ρ c) :
    Triple c (Start m ρ K c o) (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4 c v52 v79 v87 v91 v95 v141 v142 v152 v160 cst v161) (At m ρ K c 0 0 o)
      ⟨k0_pay16 v87 v141 v142 v152 v160 cst v161, k0_pay18 (F := F), k0_pay19 (F := F), k0_pay20 (F := F), k0_pay21 (F := F), k0_pay22 (F := F), k0_pay23 (F := F), k0_pay24 (F := F), k0_pay25 (F := F), Scalar.ofBits .f32 0x00000000#32⟩ := fun Q hQ => by
  rw [k0_part5_eq_skeleton]; unfold k0_part5_skel
  simp only [semSignalWord, semWaitWord, Prog.lift, Prog.bind_op, Prog.bind_ret, dev1_eq c, dev2_eq c, hkv]
  unfold Start
  iintro ⟨#HK, #Hlev, ⟨%W, HO⟩, ⟨HtP, HtN, HcB, HatB⟩, Hd, Has, Hr, ⟨%f, Hkv⟩, Hin, Hout⟩
  iapply (wp_load 𝒱₀ (c : Thread nD τ) none Set.univ (m := kvM) (S := Finset.univ) (f := f) (Finset.subset_univ _)) $$ Hkv
  iintro Hkv
  iapply (wp_store 𝒱₀ (c : Thread nD τ) none Set.univ (m := kvM)
      (r := Rect.unit (s := S16x256x512) ![0, 0, 0] S1x256x512.size inb_S16x256x512_S1x256x512_0_0_0) (Mk := Finset.univ) (S := Finset.univ) (f := f) (Finset.subset_univ _)) $$ Hkv
  iintro Hkv
  ihave Hkv := (show (((kvM.access (Rect.unit (s := S16x256x512) ![0, 0, 0] S1x256x512.size inb_S16x256x512_S1x256x512_0_0_0)).loc (c : Thread nD τ) ↦{fullShare}
      (kvM.access (Rect.unit (s := S16x256x512) ![0, 0, 0] S1x256x512.size inb_S16x256x512_S1x256x512_0_0_0)).write (Elt F) f (kvP m ρ c) Finset.univ : sProp 𝕄) ⊢ _) from slots_split m ρ c f) $$ Hkv
  icases Hkv with ⟨⟨H1, H2, H3⟩, HbT, HbF⟩
  -- the left neighbour is told, and handed where its right hops land
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP HbT]
  · isplitr; · iapply (inv_at m ρ K (prv c, none)); iexact HK
    isplitl [HO]; · iexact HO
    isplitl [HtP]; · iexact HtP
    isplitl [HbT]; · rw [payload_bar]; iexact HbT
    iapply (reached_at m ρ K (prv c, none)); iexact HK
  iintro HO
  unfold O₁
  -- the right neighbour, with where its left hops land
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (owedBy c ∅) rfl)
    $$ [HO HtN HbF]
  · isplitr; · iapply (inv_at m ρ K (nxt c, none)); iexact HK
    isplitl [HO]; · iexact HO
    isplitl [HtN]; · iexact HtN
    isplitl [HbF]; · rw [payload_bar]; iexact HbF
    iapply (reached_at m ρ K (nxt c, none)); iexact HK
  iintro HO
  -- both neighbours are ready
  iapply (Rounds.wp_wait_rest_token 𝒱₀ ER (ringRd m ρ) (c : Thread nD τ) none (κ := K (c, none))
      (wpE_semWait_eq 𝒱₀ (c : Thread nD τ) none Set.univ) (Set.mem_univ _) () (O := owedBy c ∅) (W := W) (R := 0) (m := 0) (T := ∅)
      (by rw [expect_bar]; decide)) $$ [HcB HO HatB]
  · isplitr; · iapply (inv_at m ρ K (c, none)); iexact HK
    isplitl [HcB]; · iexact HcB
    isplitl [HO]; · iexact HO
    isplitr; · iapply (mayWait_owed c barS ∅ fun j _ => by rw [semLv_bar]; omega); iexact Hlev
    iexact HatB
  iintro ⟨HO, HatB, -, Hpay⟩
  ihave Hp := (Entails.of_eq (rest_bar m ρ c)) $$ Hpay
  icases Hp with ⟨HpF, HpT⟩
  imod (Rounds.cell_close ER (ringRd m ρ) (Set.mem_univ (K (c, none))) (fun h => h) (R := 0 + 1) (duties_later m ρ (barCell c))) $$ [HatB] with HzB
  · isplitr; · iapply (inv_at m ρ K (c, none)); iexact HK
    iexact HatB
  ihave Hp := (Entails.of_eq (hops_split (fun j => landing j c)).symm) $$ [HpT HpF]
  · unfold barPay; isplitl [HpT] <;> iassumption
  rw [wp_pure]; imodintro
  iapply hQ
  unfold At
  rw [started_zero]
  unfold St pools pool
  rw [lent_empty, lent_empty, avail_empty, Finset.sdiff_empty, Finset.sdiff_empty, Finset.sdiff_empty, bigSep_empty, bigSep_empty, bigSep_empty]
  isplitr; · iexact HK
  isplitr; · iexact Hlev
  isplitl [HO]; · iexists _; iexact HO
  isplitl [Hd Hp]
  · iapply (show iprop(bigSep Finset.univ (fun j => iprop(dutyTok ER (sendCell c j) 0 false ∗ dutyTok ER (recvCell (tgt j c) j) 0 false)) ∗ bigSep Finset.univ (fun j => landing j c))
        ⊢ (bigSep Finset.univ (toSend c) : sProp 𝕄) from by
      rw [← eq_sep, ← bigSep_sep]
      exact bigSep_mono fun j _ => by
        show iprop((dutyTok ER (sendCell c j) 0 false ∗ dutyTok ER (recvCell (tgt j c) j) 0 false) ∗ landing j c) ⊢ (toSend c j : sProp 𝕄)
        unfold toSend; iintro ⟨⟨Ha, Hb⟩, Hc⟩; isplitl [Ha]; (· iexact Ha); isplitl [Hb] <;> iassumption)
    isplitl [Hd] <;> iassumption
  isplitr; · iempintro
  isplitl [Has]; · iexact Has
  isplitr; · iempintro
  isplitl [Hr]; · iexact Hr
  isplitr; · iempintro
  isplitl [H1]; · iexact H1
  isplitl [H2 H3]; · isplitl [H2] <;> iassumption
  isplitl [Hin]; · iexact Hin
  isplitl [Hout] <;> iassumption

end Cert.RingAttn

end
-- ==== Proof.Output.lean ====
/-
# What a device writes

The attention of a device's queries over the slots, slot 0 first, then the slots two by two, then slot 8; the result is
the quotient of the weighted sums by the sums of the weights, times the output matrix.
-/
module

public import proofs.«01_k».proof.Proof.Prologue

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## One step over a slot, and over two -/

/-- The weights' sums and the weighted sums after one more slot: -/
def sum1 (l : FVec F S128x1 .f32) (q : FVec F S128x64 .bf16) (k : Vec F S1x128x64 .bf16) : FVec F S128x1 .f32 :=
  addf l (shapeCast S128x1 (multiReduction .add [1] S128
    (exp (matmul dot_S128x64_S128x64_S128x128_1_1_0_0_n_n none q (shapeCast S128x64 k shapeCasts_S1x128x64_S128x64) (constant S128x128 .f32 0x00000000#32)))
    0x00000000#32 reduces_S128x128_S128 (.inl rfl) rfl) shapeCasts_S128_S128x1)
/-- and the weighted sum of the values: -/
def acc1 (a : FVec F S128x64 .f32) (q : FVec F S128x64 .bf16) (k v : Vec F S1x128x64 .bf16) : FVec F S128x64 .f32 :=
  addf a (matmul dot_S128x128_S128x64_S128x64_1_0_0_1_n_n none (truncf .bf16
    (exp (matmul dot_S128x64_S128x64_S128x128_1_1_0_0_n_n none q (shapeCast S128x64 k shapeCasts_S1x128x64_S128x64) (constant S128x128 .f32 0x00000000#32)))
    bitsLt_bf16_f32) (shapeCast S128x64 v shapeCasts_S1x128x64_S128x64) (constant S128x64 .f32 0x00000000#32))
/-- two slots one over the other; -/
def both (k k' : Vec F S1x128x64 .bf16) : FVec F S256x64 .bf16 :=
  concatenate S256x64 0 [⟨S128x64, shapeCast S128x64 k shapeCasts_S1x128x64_S128x64⟩, ⟨S128x64, shapeCast S128x64 k' shapeCasts_S1x128x64_S128x64⟩]
    concatenates_S128x64_S128x64_S256x64_d0
/-- the same after two more slots. -/
def sum2 (l : FVec F S128x1 .f32) (q : FVec F S128x64 .bf16) (k k' : Vec F S1x128x64 .bf16) : FVec F S128x1 .f32 :=
  addf l (shapeCast S128x1 (multiReduction .add [1] S128
    (exp (matmul dot_S128x64_S256x64_S128x256_1_1_0_0_n_n none q (both k k') (constant S128x256 .f32 0x00000000#32)))
    0x00000000#32 reduces_S128x256_S128 (.inl rfl) rfl) shapeCasts_S128_S128x1)
/-- and the weighted sum of the values after two more slots. -/
def acc2 (a : FVec F S128x64 .f32) (q : FVec F S128x64 .bf16) (k k' v v' : Vec F S1x128x64 .bf16) : FVec F S128x64 .f32 :=
  addf a (matmul dot_S128x256_S256x64_S128x64_1_0_0_1_n_n none (truncf .bf16
    (exp (matmul dot_S128x64_S256x64_S128x256_1_1_0_0_n_n none q (both k k') (constant S128x256 .f32 0x00000000#32)))
    bitsLt_bf16_f32) (both v v') (constant S128x64 .f32 0x00000000#32))

/-! ## One batch and head -/

/-- Batch `b` and head `h` of the queries. -/
theorem inb_q (b : Fin 2) (h : Fin 4) : S256x256.Slices ![128 * b.val, 64 * h.val] S128x64 := by revert b h; decide
/-- Batch `b` and head `h` of the queries. -/
def qblk (q : FVec F S256x256 .bf16) (b : Fin 2) (h : Fin 4) : FVec F S128x64 .bf16 :=
  extractStridedSlice S128x64 ![128 * b.val, 64 * h.val] q (inb_q b h)
/-- Batch `b` of slot `s`, its eight column blocks `e`: four heads of keys, then four of values. -/
theorem inb_kv (s : Fin 16) (b : Fin 2) (e : Fin 8) : ∀ a, (![s.val, 128 * b.val, 64 * e.val] : Fin 3 → ℕ) a + S1x128x64.size a ≤ S16x256x512.size a := by
  revert s b e; decide
/-- A block of a slot. -/
def sblk (c : Dev nD) (s : Fin 16) (b : Fin 2) (e : Fin 8) : Vec F S1x128x64 .bf16 := kvblk m ρ c ![s.val, 128 * b.val, 64 * e.val] (inb_kv s b e)

/-- The weights' sums after slot 0 and the first `n` pairs of slots, -/
def sumN (q : FVec F S128x64 .bf16) (k : Fin 16 → Vec F S1x128x64 .bf16) : ℕ → FVec F S128x1 .f32
  | 0 => sum1 (broadcast S128x1 (Scalar.ofBits .f32 0x00000000#32)) q (k 0)
  | n + 1 => sum2 (sumN q k n) q (k (Fin.ofNat 16 (n + 1))) (k (Fin.ofNat 16 (15 - n)))
/-- and the weighted sums; -/
def accN (q : FVec F S128x64 .bf16) (k v : Fin 16 → Vec F S1x128x64 .bf16) : ℕ → FVec F S128x64 .f32
  | 0 => acc1 (broadcast S128x64 (Scalar.ofBits .f32 0x00000000#32)) q (k 0) (v 0)
  | n + 1 => acc2 (accN q k v n) q (k (Fin.ofNat 16 (n + 1))) (k (Fin.ofNat 16 (15 - n))) (v (Fin.ofNat 16 (n + 1))) (v (Fin.ofNat 16 (15 - n)))
/-- the quotient after all sixteen. -/
def ctx (q : FVec F S128x64 .bf16) (k v : Fin 16 → Vec F S1x128x64 .bf16) : FVec F S128x64 .f32 :=
  divf (acc1 (accN q k v 7) q (k 8) (v 8)) (broadcastTo S128x64 (sum1 (sumN q k 7) q (k 8)) broadcasts_S128x1_S128x64)
/-- The quotient of batch `b` and head `h` on device `c`. -/
def ctxAt (c : Dev nD) (b : Fin 2) (h : Fin 4) : FVec F S128x64 .f32 :=
  ctx (qblk (qP m ρ c) b h) (fun s => sblk m ρ c s b ⟨h.val, by omega⟩) (fun s => sblk m ρ c s b ⟨4 + h.val, by omega⟩)

/-- The heads of a batch side by side, -/
def rowsAt (c : Dev nD) (b : Fin 2) : FVec F S128x256 .f32 :=
  concatenate S128x256 1 [⟨S128x64, ctxAt m ρ c b 0⟩, ⟨S128x64, ctxAt m ρ c b 1⟩, ⟨S128x64, ctxAt m ρ c b 2⟩, ⟨S128x64, ctxAt m ρ c b 3⟩]
    concatenates_S128x64_S128x64_S128x64_S128x64_S128x256_d1
/-- and what the device writes. -/
def outV (c : Dev nD) : (cc0_stg5_0 : Ref sig .tc).ty.Contents (Elt F) :=
  shapeCast S2x128x512 (matmul dot_S256x256_S256x512_S256x512_1_0_0_1_n_n none
    (truncf .bf16 (concatenate S256x256 0 [⟨S128x256, rowsAt m ρ c 0⟩, ⟨S128x256, rowsAt m ρ c 1⟩] concatenates_S128x256_S128x256_S256x256_d0) bitsLt_bf16_f32)
    (truncf .bf16 (shapeCast S256x512 (wostg m ρ c) shapeCasts_S256x512_S256x512) bitsLt_bf16_f32)
    (constant S256x512 .f32 0x00000000#32)) shapeCasts_S256x512_S2x128x512

end Cert.RingAttn

end
-- ==== Proof.Run.lean ====
/-
# The run of a device's body

From what a device holds at the start, its body runs, hop by hop, to the end with every hop arrived and departed and
`outV` in the result's block.
-/
module

public import proofs.«01_k».proof.Proof.Output

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Running forward -/

/-- From `P` the program `p` of device `c` runs to `Q`. -/
def Go (c : Dev nD) {α : Type} (P : sProp 𝕄) (p : Prog (TpuEff nD τ sig (Elt F) Λ₀ .tc) α) (Q : α → sProp 𝕄) : Prop :=
  P ⊢ wp frame (wpE (defs₀ (F := F)) 𝒱₀ (c : Thread nD τ) none) Set.univ p Q
/-- A program followed by another, -/
theorem Go.bind {c : Dev nD} {α β : Type} {P : sProp 𝕄} {p : Prog (TpuEff nD τ sig (Elt F) Λ₀ .tc) α} {k : α → Prog (TpuEff nD τ sig (Elt F) Λ₀ .tc) β} {Q : β → sProp 𝕄}
    (h : Go c P p (fun a => wp frame (wpE (defs₀ (F := F)) 𝒱₀ (c : Thread nD τ) none) Set.univ (k a) Q)) : Go c P (p >>= k) Q := by
  unfold Go; rw [wp_bind]; exact h
/-- a step followed by the rest, -/
theorem Go.step {c : Dev nD} {α β : Type} {P P' : sProp 𝕄} {p : Prog (TpuEff nD τ sig (Elt F) Λ₀ .tc) α} {k : α → Prog (TpuEff nD τ sig (Elt F) Λ₀ .tc) β} {a : α} {Q : β → sProp 𝕄}
    (hp : Triple c P p P' a) (h : Go c P' (k a) Q) : Go c P (p >>= k) Q := Go.bind (hp _ h)
/-- and a value handed on. -/
theorem Go.pure {c : Dev nD} {α β : Type} {P : sProp 𝕄} {a : α} {k : α → Prog (TpuEff nD τ sig (Elt F) Λ₀ .tc) β} {Q : β → sProp 𝕄}
    (h : Go c P (k a) Q) : Go c P (Pure.pure a : Prog (TpuEff nD τ sig (Elt F) Λ₀ .tc) α) (fun a => wp frame (wpE (defs₀ (F := F)) 𝒱₀ (c : Thread nD τ) none) Set.univ (k a) Q) :=
  Triple.pure a _ h

variable (K : Names)

/-! ## The loads and the store of staged blocks -/

/-- Offsets of zero in two dimensions, -/
theorem zeros2 : (![0, 0] : Fin 2 → ℕ) = fun _ => 0 := by funext a; fin_cases a <;> rfl
/-- and in three. -/
theorem zeros3 : (![0, 0, 0] : Fin 3 → ℕ) = fun _ => 0 := by funext a; fin_cases a <;> rfl

/-- The staged inputs, out of what a device has at the start, -/
theorem Start_in (c : Dev nD) (o) : ∃ R : sProp 𝕄, (Start m ρ K c o : sProp 𝕄) ⊣⊢ iprop(stagedIn m ρ c ∗ R) := by
  refine ⟨iprop(records m ρ K ∗ levAts L lv ∗ (∃ Wt, owes (c : Thread nD τ) (O₀ c) Wt)
    ∗ (dutyTok ER (barCell (prv c)) 0 true ∗ dutyTok ER (barCell (nxt c)) 0 false ∗ cred (tallyAt (barCell c) () 2) ∗ atPos ER (barCell c) 0 ∅ 0)
    ∗ bigSep Finset.univ (fun j => iprop(dutyTok ER (sendCell c j) 0 false ∗ dutyTok ER (recvCell (tgt j c) j) 0 false))
    ∗ bigSep Finset.univ (fun j => atPos ER (sendCell c j) 0 ∅ 0)
    ∗ bigSep Finset.univ (toRecv c)
    ∗ (∃ f : (cc0_scratch0 : Ref sig .tc).ty.Contents (Elt F), kvLoc c ↦{fullShare} f) ∗ outPt c o), ?_, ?_⟩
  · unfold Start
    iintro ⟨H1, H2, H3, H4, H5, H6, H7, H8, Hs, H9⟩
    iframe
  · unfold Start
    iintro ⟨Hs, H1, H2, H3, H4, H5, H6, H7, H8, H9⟩
    iframe

/-- and later. -/
theorem At_in (c : Dev nD) (n b : ℕ) (o) : ∃ R : sProp 𝕄, (At m ρ K c n b o : sProp 𝕄) ⊣⊢ iprop(stagedIn m ρ c ∗ R) := by
  refine ⟨iprop(records m ρ K ∗ levAts L lv ∗ (∃ Wt, owes (c : Thread nD τ) (owedBy c (started n)) Wt)
    ∗ bigSep (Finset.univ \ started n) (toSend c)
    ∗ bigSep (started n \ ∅) (fun j => cred (tallyAt (sendCell c j) () N))
    ∗ bigSep (Finset.univ \ ∅) (fun j => atPos ER (sendCell c j) 0 ∅ 0) ∗ bigSep ∅ (fun j => atPos ER (sendCell c j) (0 + 1) ∅ 0)
    ∗ bigSep (Finset.univ \ started b) (toRecv c) ∗ bigSep (started b) (fun j => atPos ER (recvCell c j) (0 + 1) ∅ 0)
    ∗ pts m ρ c fullShare.left (avail (started b)) ∗ pools m ρ c (started n) (started b) ∅
    ∗ outPt c o ∗ semVal (barCell c) 0), ?_, ?_⟩
  · unfold At St
    iintro ⟨H1, H2, H3, H4, H5, H6, H7, H8, H9, H10, H11, Hs, H12, H13⟩
    iframe
  · unfold At St
    iintro ⟨Hs, H1, H2, H3, H4, H5, H6, H7, H8, H9, H10, H11, H12, H13⟩
    iframe

/-- Each staged block taken out of the others. -/
theorem take_x {c : Dev nD} {P : sProp 𝕄} (h : ∃ R : sProp 𝕄, P ⊣⊢ iprop(stagedIn m ρ c ∗ R)) :
    ∃ R : sProp 𝕄, P ⊣⊢ iprop(((c : Thread nD τ).loc cc0_stg0_0 ↦{fullShare} xstg m ρ c) ∗ R) := by
  obtain ⟨R, h⟩ := h
  refine ⟨iprop(((c : Thread nD τ).loc cc0_stg1_0 ↦{fullShare} wqstg m ρ c) ∗ ((c : Thread nD τ).loc cc0_stg2_0 ↦{fullShare} wkstg m ρ c)
    ∗ ((c : Thread nD τ).loc cc0_stg3_0 ↦{fullShare} wvstg m ρ c) ∗ ((c : Thread nD τ).loc cc0_stg4_0 ↦{fullShare} wostg m ρ c) ∗ R),
    h.1.trans ?_, BIBase.Entails.trans ?_ h.2⟩ <;> unfold stagedIn
  · iintro ⟨⟨H0, H1, H2, H3, H4⟩, HR⟩; iframe
  · iintro ⟨H0, H1, H2, H3, H4, HR⟩; iframe
/-- Loading the weights of the queries, -/
theorem take_wq {c : Dev nD} {P : sProp 𝕄} (h : ∃ R : sProp 𝕄, P ⊣⊢ iprop(stagedIn m ρ c ∗ R)) :
    ∃ R : sProp 𝕄, P ⊣⊢ iprop(((c : Thread nD τ).loc cc0_stg1_0 ↦{fullShare} wqstg m ρ c) ∗ R) := by
  obtain ⟨R, h⟩ := h
  refine ⟨iprop(((c : Thread nD τ).loc cc0_stg0_0 ↦{fullShare} xstg m ρ c) ∗ ((c : Thread nD τ).loc cc0_stg2_0 ↦{fullShare} wkstg m ρ c)
    ∗ ((c : Thread nD τ).loc cc0_stg3_0 ↦{fullShare} wvstg m ρ c) ∗ ((c : Thread nD τ).loc cc0_stg4_0 ↦{fullShare} wostg m ρ c) ∗ R),
    h.1.trans ?_, BIBase.Entails.trans ?_ h.2⟩ <;> unfold stagedIn
  · iintro ⟨⟨H0, H1, H2, H3, H4⟩, HR⟩; iframe
  · iintro ⟨H0, H1, H2, H3, H4, HR⟩; iframe
/-- of the keys -/
theorem take_wk {c : Dev nD} {P : sProp 𝕄} (h : ∃ R : sProp 𝕄, P ⊣⊢ iprop(stagedIn m ρ c ∗ R)) :
    ∃ R : sProp 𝕄, P ⊣⊢ iprop(((c : Thread nD τ).loc cc0_stg2_0 ↦{fullShare} wkstg m ρ c) ∗ R) := by
  obtain ⟨R, h⟩ := h
  refine ⟨iprop(((c : Thread nD τ).loc cc0_stg0_0 ↦{fullShare} xstg m ρ c) ∗ ((c : Thread nD τ).loc cc0_stg1_0 ↦{fullShare} wqstg m ρ c)
    ∗ ((c : Thread nD τ).loc cc0_stg3_0 ↦{fullShare} wvstg m ρ c) ∗ ((c : Thread nD τ).loc cc0_stg4_0 ↦{fullShare} wostg m ρ c) ∗ R),
    h.1.trans ?_, BIBase.Entails.trans ?_ h.2⟩ <;> unfold stagedIn
  · iintro ⟨⟨H0, H1, H2, H3, H4⟩, HR⟩; iframe
  · iintro ⟨H0, H1, H2, H3, H4, HR⟩; iframe
/-- and of the values, -/
theorem take_wv {c : Dev nD} {P : sProp 𝕄} (h : ∃ R : sProp 𝕄, P ⊣⊢ iprop(stagedIn m ρ c ∗ R)) :
    ∃ R : sProp 𝕄, P ⊣⊢ iprop(((c : Thread nD τ).loc cc0_stg3_0 ↦{fullShare} wvstg m ρ c) ∗ R) := by
  obtain ⟨R, h⟩ := h
  refine ⟨iprop(((c : Thread nD τ).loc cc0_stg0_0 ↦{fullShare} xstg m ρ c) ∗ ((c : Thread nD τ).loc cc0_stg1_0 ↦{fullShare} wqstg m ρ c)
    ∗ ((c : Thread nD τ).loc cc0_stg2_0 ↦{fullShare} wkstg m ρ c) ∗ ((c : Thread nD τ).loc cc0_stg4_0 ↦{fullShare} wostg m ρ c) ∗ R),
    h.1.trans ?_, BIBase.Entails.trans ?_ h.2⟩ <;> unfold stagedIn
  · iintro ⟨⟨H0, H1, H2, H3, H4⟩, HR⟩; iframe
  · iintro ⟨H0, H1, H2, H3, H4, HR⟩; iframe
/-- and the output matrix. -/
theorem take_wo {c : Dev nD} {P : sProp 𝕄} (h : ∃ R : sProp 𝕄, P ⊣⊢ iprop(stagedIn m ρ c ∗ R)) :
    ∃ R : sProp 𝕄, P ⊣⊢ iprop(((c : Thread nD τ).loc cc0_stg4_0 ↦{fullShare} wostg m ρ c) ∗ R) := by
  obtain ⟨R, h⟩ := h
  refine ⟨iprop(((c : Thread nD τ).loc cc0_stg0_0 ↦{fullShare} xstg m ρ c) ∗ ((c : Thread nD τ).loc cc0_stg1_0 ↦{fullShare} wqstg m ρ c)
    ∗ ((c : Thread nD τ).loc cc0_stg2_0 ↦{fullShare} wkstg m ρ c) ∗ ((c : Thread nD τ).loc cc0_stg3_0 ↦{fullShare} wvstg m ρ c) ∗ R),
    h.1.trans ?_, BIBase.Entails.trans ?_ h.2⟩ <;> unfold stagedIn
  · iintro ⟨⟨H0, H1, H2, H3, H4⟩, HR⟩; iframe
  · iintro ⟨H0, H1, H2, H3, H4, HR⟩; iframe

/-! ## Before the first hop -/

/-- The device and its word, among numbers that nothing here depends on. -/
theorem run_part1 {c : Dev nD} {P : sProp 𝕄} : ∃ v26 v28 c4 v29 v34 v36 v37,
    Triple c P (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4) P ⟨c, devWord c, v26, v28, c4, v29, v34, v36, v37⟩ := by
  repeat (with_reducible apply Exists.intro)
  rw [k0_part1_eq_skeleton]; unfold k0_part1_skel
  exact Triple.bind Triple.deviceId (Triple.pure _)

/-- The second part only computes, -/
theorem run_part2 {c : Dev nD} {P : sProp 𝕄} (v26 v28 c4 v29 v34 v36 : BitVec 32) (v37 : BitVec 1) : ∃ v52 v72 v73 v75 v76,
    Triple c P (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4 v26 v28 c4 v29 v34 v36 v37) P ⟨v52, v72, v73, v75, v76⟩ := by
  repeat (with_reducible apply Exists.intro)
  rw [k0_part2_eq_skeleton]; unfold k0_part2_skel
  exact Triple.pure _

/-- The queries, keys and values before the rotation, and what the angles are computed of. -/
theorem run_part3 (c : Dev nD) (o) (v2 v72 v73 : BitVec 32) (v75 : BitVec 1) (v76 : BitVec 32) : ∃ v79 : BitVec 32,
    Triple c (Start m ρ K c o) (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4 v2 v72 v73 v75 v76) (Start m ρ K c o)
      ⟨v79, k0_pay2 (xstg m ρ c) (wqstg m ρ c), k0_pay3 (xstg m ρ c) (wkstg m ρ c), k0_pay4 (xstg m ρ c) (wvstg m ρ c), k0_pay5 (F := F) v2, k0_pay6, 2#32,
        k0_pay7, k0_pay8, Scalar.extui (Scalar.cmpi .sgt 2#32 0#32)⟩ := by
  obtain ⟨R0, h0⟩ := take_x m ρ (Start_in m ρ K c o)
  obtain ⟨R1, h1⟩ := take_wq m ρ (Start_in m ρ K c o)
  obtain ⟨R2, h2⟩ := take_wk m ρ (Start_in m ρ K c o)
  obtain ⟨R3, h3⟩ := take_wv m ρ (Start_in m ρ K c o)
  repeat (with_reducible apply Exists.intro)
  rw [k0_part3_eq_skeleton]; unfold k0_part3_skel
  refine Triple.bind (load_held (Memref.readAt_unit_zero (Elt F) cc0_stg0_0 zeros3 _ _) h0) ?_
  refine Triple.bind (load_held (Memref.readAt_unit_zero (Elt F) cc0_stg1_0 zeros2 _ _) h1) ?_
  refine Triple.bind (load_held (Memref.readAt_unit_zero (Elt F) cc0_stg2_0 zeros2 _ _) h2) ?_
  refine Triple.bind (load_held (Memref.readAt_unit_zero (Elt F) cc0_stg3_0 zeros2 _ _) h3) ?_
  exact Triple.pure _

/-- and so does the fourth. -/
theorem run_part4 {c : Dev nD} {P : sProp 𝕄} (v103 : FVec F S256x256 .f32) (v105 : IVec S256x256 32) (c2 : BitVec 32) (v107 v114 : IVec S256x256 32) (v116 : BitVec 32) :
    Triple c P (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4 v103 v105 c2 v107 v114 v116) P
      ⟨k0_pay10 v103 v105 c2 v107 v114 v116, k0_pay11 v103 v105 c2 v107 v114 v116, k0_pay12, k0_pay13, Scalar.ofBits .f32 0x00000000#32, k0_pay14 (F := F)⟩ := by
  rw [k0_part4_eq_skeleton]; unfold k0_part4_skel; dsimp only
  with_reducible exact Triple.pure _

/-- The part with the store of the result. -/
theorem run_part88 (c : Dev nD) (o) (v2492 v2502 v2505 v2515 v2518 v2528 v2531 v2541 v2544 v2554 v2557 v2559 v2561 v2562)
    (hw : k0_pay322 v2492 v2502 v2505 v2515 v2518 v2528 v2531 v2541 v2544 v2554 v2557 v2559 v2561 v2562 (wostg m ρ c) = outV m ρ c) :
    Triple c (At m ρ K c 60 60 o) (k0_part88 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4 v2492 v2502 v2505 v2515 v2518 v2528 v2531 v2541 v2544 v2554 v2557 v2559 v2561 v2562)
      (Done m ρ K c 1 (outV m ρ c)) ⟨⟩ := by
  obtain ⟨R4, h4⟩ := take_wo m ρ (At_in m ρ K c 60 60 o)
  obtain ⟨R5, h5⟩ := St_out m ρ K (c := c) (S := started 60) (W := started 60) (D := ∅)
  have e : St m ρ K c (started 60) (started 60) ∅ (outV m ρ c) = Done m ρ K c 0 (outV m ρ c) := by
    unfold Done; rw [started_all, departed_zero]
  have h6 := h5 (outV m ρ c)
  rw [e] at h6
  have h7 : At m ρ K c 60 60 o ⊣⊢ iprop(outPt c o ∗ R5) := by unfold At; exact h5 o
  unfold outPt at h6 h7
  clear e h5
  generalize At m ρ K c 60 60 o = P at *
  rw [k0_part88_eq_skeleton]; unfold k0_part88_skel
  refine Triple.bind (load_held (Memref.readAt_unit_zero (Elt F) cc0_stg4_0 zeros2 _ _) h4) ?_
  refine Triple.bind (load_held (Memref.readAt_unit_zero (Elt F) cc0_stg5_0 zeros3 _ _) h7) ?_
  rw [hw]
  generalize outV m ρ c = V at *
  refine Triple.bind (store_held
    (Memref.write_access_unit_zero_univ (Elt F) cc0_stg5_0 zeros3 _ _ _) h7.1 h6.2) ?_
  dsimp only
  with_reducible refine Triple.bind (Done_sent m ρ K ?_ ?_ ?_) ?_
  · decide +kernel
  · rfl
  · rfl
  · with_reducible exact Triple.pure _

end Cert.RingAttn

end
-- ==== Proof.Body.lean ====
/-
# The run of a device's body, whole
-/
module

public import proofs.«01_k».proof.Proof.Run

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Names)

set_option maxRecDepth 65536 in
set_option maxHeartbeats 8000000 in
/-- From what it holds at the start, a device's body runs to every hop arrived and departed, `outV` written. -/
theorem run_body (c : Dev nD) (o) (Q : PUnit → sProp 𝕄) (hQ : (Done m ρ K c 60 (outV m ρ c) : sProp 𝕄) ⊢ Q ⟨⟩) :
    Go c (Start m ρ K c o) (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4) Q := by
  rw [cc0_body_eq_skeleton]; unfold cc0_body_skel
  apply Go.bind
  rw [k0_part106_eq_skeleton]; unfold k0_part106_skel
  obtain ⟨v26, v28, c4, v29, v34, v36, v37, h1⟩ := run_part1 (F := F) (c := c) (P := Start m ρ K c o)
  refine Go.step h1 ?_
  clear h1; dsimp only
  obtain ⟨v52, v72, v73, v75, v76, h2⟩ := run_part2 (F := F) (c := c) (P := Start m ρ K c o) v26 v28 c4 v29 v34 v36 v37
  refine Go.step h2 ?_
  clear h2; dsimp only
  obtain ⟨v79, h3⟩ := run_part3 m ρ K c o (devWord c) v72 v73 v75 v76
  refine Go.step h3 ?_
  clear h3; dsimp only
  refine Go.step (run_part4 _ _ _ _ _ _) ?_
  dsimp only
  refine Go.step (run_part5 m ρ K c o _ _ _ _ _ _ _ _ _ _ _ rfl) ?_
  dsimp only
  repeat
    apply Go.step
    case hp =>
      first
        | (rw [k0_part6_eq_skeleton]; unfold k0_part6_skel)
        | (rw [k0_part7_eq_skeleton]; unfold k0_part7_skel)
        | (rw [k0_part8_eq_skeleton]; unfold k0_part8_skel)
        | (rw [k0_part9_eq_skeleton]; unfold k0_part9_skel)
        | (rw [k0_part10_eq_skeleton]; unfold k0_part10_skel)
        | (rw [k0_part11_eq_skeleton]; unfold k0_part11_skel)
        | (rw [k0_part12_eq_skeleton]; unfold k0_part12_skel)
        | (rw [k0_part13_eq_skeleton]; unfold k0_part13_skel)
        | (rw [k0_part14_eq_skeleton]; unfold k0_part14_skel)
        | (rw [k0_part15_eq_skeleton]; unfold k0_part15_skel)
        | (rw [k0_part16_eq_skeleton]; unfold k0_part16_skel)
        | (rw [k0_part17_eq_skeleton]; unfold k0_part17_skel)
        | (rw [k0_part18_eq_skeleton]; unfold k0_part18_skel)
        | (rw [k0_part19_eq_skeleton]; unfold k0_part19_skel)
        | (rw [k0_part20_eq_skeleton]; unfold k0_part20_skel)
        | (rw [k0_part21_eq_skeleton]; unfold k0_part21_skel)
        | (rw [k0_part22_eq_skeleton]; unfold k0_part22_skel)
        | (rw [k0_part23_eq_skeleton]; unfold k0_part23_skel)
        | (rw [k0_part24_eq_skeleton]; unfold k0_part24_skel)
        | (rw [k0_part25_eq_skeleton]; unfold k0_part25_skel)
        | (rw [k0_part26_eq_skeleton]; unfold k0_part26_skel)
        | (rw [k0_part27_eq_skeleton]; unfold k0_part27_skel)
        | (rw [k0_part28_eq_skeleton]; unfold k0_part28_skel)
        | (rw [k0_part29_eq_skeleton]; unfold k0_part29_skel)
        | (rw [k0_part30_eq_skeleton]; unfold k0_part30_skel)
        | (rw [k0_part31_eq_skeleton]; unfold k0_part31_skel)
        | (rw [k0_part32_eq_skeleton]; unfold k0_part32_skel)
        | (rw [k0_part33_eq_skeleton]; unfold k0_part33_skel)
        | (rw [k0_part34_eq_skeleton]; unfold k0_part34_skel)
        | (rw [k0_part35_eq_skeleton]; unfold k0_part35_skel)
        | (rw [k0_part36_eq_skeleton]; unfold k0_part36_skel)
        | (rw [k0_part37_eq_skeleton]; unfold k0_part37_skel)
        | (rw [k0_part38_eq_skeleton]; unfold k0_part38_skel)
        | (rw [k0_part39_eq_skeleton]; unfold k0_part39_skel)
        | (rw [k0_part40_eq_skeleton]; unfold k0_part40_skel)
        | (rw [k0_part41_eq_skeleton]; unfold k0_part41_skel)
        | (rw [k0_part42_eq_skeleton]; unfold k0_part42_skel)
        | (rw [k0_part43_eq_skeleton]; unfold k0_part43_skel)
        | (rw [k0_part44_eq_skeleton]; unfold k0_part44_skel)
        | (rw [k0_part45_eq_skeleton]; unfold k0_part45_skel)
        | (rw [k0_part46_eq_skeleton]; unfold k0_part46_skel)
        | (rw [k0_part47_eq_skeleton]; unfold k0_part47_skel)
        | (rw [k0_part48_eq_skeleton]; unfold k0_part48_skel)
        | (rw [k0_part49_eq_skeleton]; unfold k0_part49_skel)
        | (rw [k0_part50_eq_skeleton]; unfold k0_part50_skel)
        | (rw [k0_part51_eq_skeleton]; unfold k0_part51_skel)
        | (rw [k0_part52_eq_skeleton]; unfold k0_part52_skel)
        | (rw [k0_part53_eq_skeleton]; unfold k0_part53_skel)
        | (rw [k0_part54_eq_skeleton]; unfold k0_part54_skel)
        | (rw [k0_part55_eq_skeleton]; unfold k0_part55_skel)
        | (rw [k0_part56_eq_skeleton]; unfold k0_part56_skel)
        | (rw [k0_part57_eq_skeleton]; unfold k0_part57_skel)
        | (rw [k0_part58_eq_skeleton]; unfold k0_part58_skel)
        | (rw [k0_part59_eq_skeleton]; unfold k0_part59_skel)
        | (rw [k0_part60_eq_skeleton]; unfold k0_part60_skel)
      try dsimp only
      repeat
        with_reducible apply Triple.bind
        first
          | (with_reducible refine At_load m ρ K ?_); decide +kernel
          | (with_reducible refine At_recv m ρ K ?_ ?_ ?_); (decide +kernel); rfl; rfl
          | (with_reducible refine Done_sent m ρ K ?_ ?_ ?_); (decide +kernel); rfl; rfl
          | (with_reducible refine At_send m ρ K ?_ ?_ ?_ ?_ ?_ ?_); (decide +kernel); rfl; (clear * - c; revert c; decide +kernel); rfl; rfl; rfl
      first
        | with_reducible exact Triple.pure _
        | (with_reducible refine At_load m ρ K ?_); decide +kernel
        | (with_reducible refine At_recv m ρ K ?_ ?_ ?_); (decide +kernel); rfl; rfl
        | (with_reducible refine Done_sent m ρ K ?_ ?_ ?_); (decide +kernel); rfl; rfl
        | (with_reducible refine At_send m ρ K ?_ ?_ ?_ ?_ ?_ ?_); (decide +kernel); rfl; (clear * - c; revert c; decide +kernel); rfl; rfl; rfl
    try dsimp only

  with_reducible apply Go.pure
  dsimp only
  apply Go.bind
  rw [k0_part107_eq_skeleton]; unfold k0_part107_skel
  try dsimp only
  repeat
    apply Go.step
    case hp =>
      first
        | (rw [k0_part61_eq_skeleton]; unfold k0_part61_skel)
        | (rw [k0_part62_eq_skeleton]; unfold k0_part62_skel)
        | (rw [k0_part63_eq_skeleton]; unfold k0_part63_skel)
        | (rw [k0_part64_eq_skeleton]; unfold k0_part64_skel)
        | (rw [k0_part65_eq_skeleton]; unfold k0_part65_skel)
        | (rw [k0_part66_eq_skeleton]; unfold k0_part66_skel)
        | (rw [k0_part67_eq_skeleton]; unfold k0_part67_skel)
        | (rw [k0_part68_eq_skeleton]; unfold k0_part68_skel)
        | (rw [k0_part69_eq_skeleton]; unfold k0_part69_skel)
        | (rw [k0_part70_eq_skeleton]; unfold k0_part70_skel)
        | (rw [k0_part71_eq_skeleton]; unfold k0_part71_skel)
        | (rw [k0_part72_eq_skeleton]; unfold k0_part72_skel)
        | (rw [k0_part73_eq_skeleton]; unfold k0_part73_skel)
        | (rw [k0_part74_eq_skeleton]; unfold k0_part74_skel)
        | (rw [k0_part75_eq_skeleton]; unfold k0_part75_skel)
        | (rw [k0_part76_eq_skeleton]; unfold k0_part76_skel)
        | (rw [k0_part77_eq_skeleton]; unfold k0_part77_skel)
        | (rw [k0_part78_eq_skeleton]; unfold k0_part78_skel)
        | (rw [k0_part79_eq_skeleton]; unfold k0_part79_skel)
        | (rw [k0_part80_eq_skeleton]; unfold k0_part80_skel)
        | (rw [k0_part81_eq_skeleton]; unfold k0_part81_skel)
        | (rw [k0_part82_eq_skeleton]; unfold k0_part82_skel)
        | (rw [k0_part83_eq_skeleton]; unfold k0_part83_skel)
        | (rw [k0_part84_eq_skeleton]; unfold k0_part84_skel)
        | (rw [k0_part85_eq_skeleton]; unfold k0_part85_skel)
        | (rw [k0_part86_eq_skeleton]; unfold k0_part86_skel)
        | (rw [k0_part87_eq_skeleton]; unfold k0_part87_skel)
      try dsimp only
      repeat
        with_reducible apply Triple.bind
        first
          | (with_reducible refine At_load m ρ K ?_); decide +kernel
          | (with_reducible refine At_recv m ρ K ?_ ?_ ?_); (decide +kernel); rfl; rfl
          | (with_reducible refine Done_sent m ρ K ?_ ?_ ?_); (decide +kernel); rfl; rfl
          | (with_reducible refine At_send m ρ K ?_ ?_ ?_ ?_ ?_ ?_); (decide +kernel); rfl; (clear * - c; revert c; decide +kernel); rfl; rfl; rfl
      first
        | with_reducible exact Triple.pure _
        | (with_reducible refine At_load m ρ K ?_); decide +kernel
        | (with_reducible refine At_recv m ρ K ?_ ?_ ?_); (decide +kernel); rfl; rfl
        | (with_reducible refine Done_sent m ρ K ?_ ?_ ?_); (decide +kernel); rfl; rfl
        | (with_reducible refine At_send m ρ K ?_ ?_ ?_ ?_ ?_ ?_); (decide +kernel); rfl; (clear * - c; revert c; decide +kernel); rfl; rfl; rfl
    try dsimp only

  apply Go.step (run_part88 m ρ K c o _ _ _ _ _ _ _ _ _ _ _ _ _ _ ?hw)
  case hw => rfl
  try dsimp only
  repeat
    apply Go.step
    case hp =>
      first
        | (rw [k0_part89_eq_skeleton]; unfold k0_part89_skel)
        | (rw [k0_part90_eq_skeleton]; unfold k0_part90_skel)
        | (rw [k0_part91_eq_skeleton]; unfold k0_part91_skel)
        | (rw [k0_part92_eq_skeleton]; unfold k0_part92_skel)
        | (rw [k0_part93_eq_skeleton]; unfold k0_part93_skel)
        | (rw [k0_part94_eq_skeleton]; unfold k0_part94_skel)
        | (rw [k0_part95_eq_skeleton]; unfold k0_part95_skel)
        | (rw [k0_part96_eq_skeleton]; unfold k0_part96_skel)
        | (rw [k0_part97_eq_skeleton]; unfold k0_part97_skel)
        | (rw [k0_part98_eq_skeleton]; unfold k0_part98_skel)
        | (rw [k0_part99_eq_skeleton]; unfold k0_part99_skel)
        | (rw [k0_part100_eq_skeleton]; unfold k0_part100_skel)
        | (rw [k0_part101_eq_skeleton]; unfold k0_part101_skel)
        | (rw [k0_part102_eq_skeleton]; unfold k0_part102_skel)
        | (rw [k0_part103_eq_skeleton]; unfold k0_part103_skel)
        | (rw [k0_part104_eq_skeleton]; unfold k0_part104_skel)
        | (rw [k0_part105_eq_skeleton]; unfold k0_part105_skel)
      try dsimp only
      repeat
        with_reducible apply Triple.bind
        first
          | (with_reducible refine At_load m ρ K ?_); decide +kernel
          | (with_reducible refine At_recv m ρ K ?_ ?_ ?_); (decide +kernel); rfl; rfl
          | (with_reducible refine Done_sent m ρ K ?_ ?_ ?_); (decide +kernel); rfl; rfl
          | (with_reducible refine At_send m ρ K ?_ ?_ ?_ ?_ ?_ ?_); (decide +kernel); rfl; (clear * - c; revert c; decide +kernel); rfl; rfl; rfl
      first
        | with_reducible exact Triple.pure _
        | (with_reducible refine At_load m ρ K ?_); decide +kernel
        | (with_reducible refine At_recv m ρ K ?_ ?_ ?_); (decide +kernel); rfl; rfl
        | (with_reducible refine Done_sent m ρ K ?_ ?_ ?_); (decide +kernel); rfl; rfl
        | (with_reducible refine At_send m ρ K ?_ ?_ ?_ ?_ ?_ ?_); (decide +kernel); rfl; (clear * - c; revert c; decide +kernel); rfl; rfl; rfl
    try dsimp only

  apply Go.step
  case hp => (with_reducible refine Done_sent m ρ K ?_ ?_ ?_); (decide +kernel); rfl; rfl
  with_reducible apply Go.pure
  try dsimp only
  apply Go.step
  case hp => (with_reducible refine Done_sent m ρ K ?_ ?_ ?_); (decide +kernel); rfl; rfl
  exact Triple.pure _ _ hQ

end Cert.RingAttn

end
-- ==== Proof.Obligation.lean ====
/-
# The launch's one point

What a device holds before and after its body, and that the body leads from the one to the other: at the end every
cell is closed, and the shares of the slots are joined again.
-/
module

public import proofs.«01_k».proof.Proof.Body

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The call has one point, -/
theorem cfg0_N : cfg0.N = 1 := by decide
/-- The one point of the launch. -/
def t₀ : Fin cfg0.N := ⟨0, by rw [cfg0_N]; decide⟩
/-- the first. -/
theorem fin_N (t : Fin cfg0.N) : t = t₀ := by
  obtain ⟨t, ht⟩ := t; have := cfg0_N; exact Fin.ext (by simp only [t₀]; omega)

/-- The positions, tokens and records a device starts from, under some names. -/
def ghost (K : Names) (c : Dev nD) : sProp 𝕄 :=
  iprop(records m ρ K ∗ (dutyTok ER (barCell (prv c)) 0 true ∗ dutyTok ER (barCell (nxt c)) 0 false ∗ atPos ER (barCell c) 0 ∅ 0)
    ∗ bigSep Finset.univ (fun j : Hop => iprop(dutyTok ER (sendCell c j) 0 false ∗ dutyTok ER (recvCell (tgt j c) j) 0 false))
    ∗ bigSep Finset.univ (fun j : Hop => atPos ER (sendCell c j) 0 ∅ 0) ∗ bigSep Finset.univ (fun j : Hop => atPos ER (recvCell c j) 0 ∅ 0))
/-- With the credits of its own cells and the levels. -/
def start (c : Dev nD) : sProp 𝕄 :=
  iprop((∃ K, ghost m ρ K c) ∗ cred (tallyAt (barCell c) () 2) ∗ bigSep Finset.univ (fun j : Hop => cred (tallyAt (recvCell c j) () N)) ∗ levAts L lv)
/-- What a device holds before the point. -/
def Φ₀ (c : Dev nD) : sProp 𝕄 := iprop(start m ρ c ∗ ∃ f : (cc0_scratch0 : Ref sig .tc).ty.Contents (Elt F), kvLoc c ↦{fullShare} f)
/-- After the body: every cell closed. -/
def Φ₁ (c : Dev nD) : sProp 𝕄 :=
  iprop((∃ f : (cc0_scratch0 : Ref sig .tc).ty.Contents (Elt F), kvLoc c ↦{fullShare} f) ∗ semVal (barCell c) 0
    ∗ bigSep Finset.univ (fun j : Hop => semVal (sendCell c j) 0) ∗ bigSep Finset.univ (fun j : Hop => semVal (recvCell c j) 0))

/-- The launch's data: what its arrays hold, what the body leaves in each window. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wkstg m ρ c
    | ⟨3, _⟩ => wvstg m ρ c
    | ⟨4, _⟩ => wostg m ρ c
    | ⟨5, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A whole buffer held at its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The end of the body -/

/-- All sixty departures. -/
theorem departed_60 : departed 60 = Finset.univ := by rw [departed_all]

/-- The three shares of all the slots are the slots. -/
theorem slots_join (c : Dev nD) : iprop(pts m ρ c fullShare.left Finset.univ ∗ pts m ρ c (poolShare true) Finset.univ ∗ pts m ρ c (poolShare false) Finset.univ)
    ⊢ (kvLoc c ↦{fullShare} kvfin m ρ c : sProp 𝕄) := by
  unfold pts; rw [qsets_univ]
  have h1 : (kvLoc c ↦[Finset.univ]{fullShare} kvfin m ρ c : sProp 𝕄) ⊣⊢ iprop((kvLoc c ↦[Finset.univ]{fullShare.left} kvfin m ρ c) ∗ (kvLoc c ↦[Finset.univ]{fullShare.right} kvfin m ρ c)) :=
    pointsTo_share (PosShare.mem_left_op_right fullShare)
  have h2 : (kvLoc c ↦[Finset.univ]{fullShare.right} kvfin m ρ c : sProp 𝕄) ⊣⊢ iprop((kvLoc c ↦[Finset.univ]{fullShare.right.left} kvfin m ρ c) ∗ (kvLoc c ↦[Finset.univ]{fullShare.right.right} kvfin m ρ c)) :=
    pointsTo_share (PosShare.mem_left_op_right fullShare.right)
  exact (sep_mono_right h2.2).trans h1.2

/-- The records serve every member of a family. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell of one kind closes. -/
theorem close_all (K : Names) (c : Dev nD) (b : Bool) :
    iprop(records m ρ K ∗ bigSep Finset.univ (fun j : Hop => atPos ER ((c : Thread nD τ), osem (b, j)) (0 + 1) ∅ 0))
      ⊢ |={Set.univ}=> (bigSep Finset.univ (fun j : Hop => semVal ((c : Thread nD τ), osem (b, j)) 0) : sProp 𝕄) := by
  refine (with_records (Ψ := fun j : Hop => iprop(|={Set.univ}=> semVal ((c : Thread nD τ), osem (b, j)) 0)) fun j _ => ?_).trans (bigSep_fupd _ _)
  show (_ : sProp 𝕄) ⊢ _
  iintro ⟨#HR, Hat⟩
  iapply (Rounds.cell_close ER (ringRd m ρ) (Set.mem_univ (K (c, some (b, j)))) (fun h => h) (R := 0 + 1) (duties_later m ρ ((c : Thread nD τ), osem (b, j))))
  isplitr
  · iapply (inv_at m ρ K (c, some (b, j))); iexact HR
  iexact Hat

/-- A staging buffer held at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves, -/
def bodyPost (c : Dev nD) : sProp 𝕄 :=
  iprop(Φ₁ (F := F) c ∗ (dats m ρ 0 c).owesAt () t₀.succ ∗ stg c cc0_stg0_0 (xstg m ρ c) ∗ stg c cc0_stg1_0 (wqstg m ρ c) ∗ stg c cc0_stg2_0 (wkstg m ρ c)
    ∗ stg c cc0_stg3_0 (wvstg m ρ c) ∗ stg c cc0_stg4_0 (wostg m ρ c) ∗ stg c cc0_stg5_0 (outV m ρ c))
/-- and what it starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- From everything arrived and departed to the point's end. -/
theorem finish (K : Names) (c : Dev nD) : (Done m ρ K c 60 (outV m ρ c) : sProp 𝕄) ⊢ |={Set.univ}=> bodyPost m ρ c := by
  unfold Done St
  rw [departed_60, owedBy_univ]
  unfold pools pool
  rw [lent_self, lent_self, Finset.sdiff_empty, avail_univ]
  iintro ⟨#HR, -, ⟨%W, HO⟩, -, -, -, Has, -, Har, Hl, ⟨Hp1, Hp2⟩, Hs, Ho, Hb⟩
  imod (close_all m ρ K c false) $$ [Has] with Hzs
  · isplitr; · iexact HR
    iexact Has
  imod (close_all m ρ K c true) $$ [Har] with Hzr
  · isplitr; · iexact HR
    iexact Har
  ihave Hkv := (slots_join m ρ c) $$ [Hl Hp1 Hp2]
  · isplitl [Hl]; · iexact Hl
    isplitl [Hp1] <;> iassumption
  unfold stagedIn
  icases Hs with ⟨H0, H1, H2, H3, H4⟩
  imodintro
  unfold bodyPost Φ₁ Dat.owesAt Pipeline.owesWithin
  rw [show (dats m ρ 0 c).owed t₀.succ = 0 from rfl]
  isplitl [Hkv Hb Hzs Hzr]
  · isplitl [Hkv]; · iexists _; iexact Hkv
    isplitl [Hb]; · iexact Hb
    isplitl [Hzs] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  unfold outPt; iexact Ho

/-- The inputs are fetched at the point. -/
theorem fetch_in (w : Fin cfg0.W) (hw : w.val < 5) (t : Fin cfg0.N) : (cfg0.win w).fetch t = true := by
  rw [fin_N t]; revert w; decide

set_option maxRecDepth 65536 in
/-- The body at the one point. -/
theorem sound_body (c : Dev nD) : (bodyPre m ρ c : sProp 𝕄)
    ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4) (fun _ => bodyPost m ρ c) := by
  unfold bodyPre Φ₀ start
  iintro ⟨⟨⟨⟨%K, Hg⟩, Hcb, Hcr, #Hlev⟩, Hkv⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = xstg m ρ c := by rw [hg0]; unfold Dat.before; rw [if_pos (fetch_in 0 (by decide) t₀)]; rfl
  have h1 : g1 = wqstg m ρ c := by rw [hg1]; unfold Dat.before; rw [if_pos (fetch_in 1 (by decide) t₀)]; rfl
  have h2 : g2 = wkstg m ρ c := by rw [hg2]; unfold Dat.before; rw [if_pos (fetch_in 2 (by decide) t₀)]; rfl
  have h3 : g3 = wvstg m ρ c := by rw [hg3]; unfold Dat.before; rw [if_pos (fetch_in 3 (by decide) t₀)]; rfl
  have h4 : g4 = wostg m ρ c := by rw [hg4]; unfold Dat.before; rw [if_pos (fetch_in 4 (by decide) t₀)]; rfl
  subst h0 h1 h2 h3 h4
  iapply (show (Start m ρ K c g5 : sProp 𝕄) ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 cc0_scratch3 cc0_scratch4) (fun _ => bodyPost m ρ c) from
    BIBase.Entails.trans (run_body m ρ K c g5 (fun _ => iprop(|={Set.univ}=> bodyPost m ρ c)) (finish m ρ K c)) (wp_fupd _ _ _ _ _))
  unfold Dat.owesAt Pipeline.owesWithin
  icases Ho with ⟨%W, %hW, HO⟩
  rw [show (dats m ρ 0 c).owed t₀.castSucc = O₀ c from rfl]
  unfold Start ghost
  icases Hg with ⟨#HR, ⟨HtP, HtN, Hab⟩, Hts, Has, Har⟩
  isplitr; · iexact HR
  isplitr; · iexact Hlev
  isplitl [HO]; · iexists W; iexact HO
  isplitl [HtP HtN Hcb Hab]
  · isplitl [HtP]; · iexact HtP
    isplitl [HtN]; · iexact HtN
    isplitl [Hcb] <;> iassumption
  isplitl [Hts]; · iexact Hts
  isplitl [Has]; · iexact Has
  isplitl [Hcr Har]
  · iapply (show iprop(bigSep Finset.univ (fun j : Hop => cred (tallyAt (recvCell c j) () N)) ∗ bigSep Finset.univ (fun j : Hop => atPos ER (recvCell c j) 0 ∅ 0))
        ⊢ (bigSep Finset.univ (toRecv c) : sProp 𝕄) from Entails.of_eq (by unfold toRecv; rw [bigSep_sep']))
    isplitl [Hcr] <;> iassumption
  isplitl [Hkv]; · iexact Hkv
  isplitl [H0 H1 H2 H3 H4]
  · unfold stagedIn
    isplitl [H0]; · iexact H0
    isplitl [H1]; · iexact H1
    isplitl [H2]; · iexact H2
    isplitl [H3]; · iexact H3
    iexact H4
  unfold outPt; iexact H5

set_option maxRecDepth 65536 in
/-- The body does at the point what the call asks of it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.RingAttn

end
-- ==== Proof.Launch.lean ====
/-
# The launch

The records of every device's cells are made at once, the tokens dealt to the devices that pay with them, and the
launch's credits read off what the neighbours owe. Then @main runs: it ends, every counter is zero, every argument
is as it was and the result's block is `outV`.
-/
module

public import proofs.«01_k».proof.Proof.Obligation
public import Idealize.ShloMosaic.Lib.Pipeline.CollectiveSegs

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The hops' semaphores are the scratch semaphores of the call. -/
theorem ownSemFacts : Pipeline.OwnSemFacts cfg0.spec osem := by decide +kernel
/-- Each window's array is held whole. -/
theorem share_eq (c : Dev nD) (w : Fin cfg0.W) : (dats m ρ 0 c).share w = fullShare := by unfold Dat.share; split <;> rfl

/-! ## The cells and the tokens -/

/-- A hop's semaphore, or the barrier's. -/
abbrev Cell : Type := Option (Bool × Hop)

/-- The semaphores of all devices are named apart. -/
theorem kcell_injective : Function.Injective (kcell : Dev nD × Cell → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl
/-- All the semaphores of the ring. -/
def ringCells : Finset (GSem nD τ sig) := Finset.univ.map ⟨kcell, kcell_injective⟩

/-- The barriers' tokens, -/
abbrev barTok (x : Dev nD × Bool) : GSem nD τ sig × ℕ × Bool := (barCell x.1, 0, x.2)
/-- and the hops'. -/
abbrev hopTok (x : Dev nD × (Bool × Hop)) : GSem nD τ sig × ℕ × Bool := (((x.1 : Thread nD τ), osem x.2), 0, false)
/-- The duties at the barriers are different, -/
theorem barTok_injective : Function.Injective barTok := by
  rintro ⟨c, b⟩ ⟨c', b'⟩ h
  exact Prod.ext (congrArg (fun x : GSem nD τ sig × ℕ × Bool => x.1.1.1) h) (congrArg (fun x : GSem nD τ sig × ℕ × Bool => x.2.2) h)
/-- and so are those of the hops. -/
theorem hopTok_injective : Function.Injective hopTok := by
  rintro ⟨c, k⟩ ⟨c', k'⟩ h
  have h1 : (c, some k) = ((c', some k') : Dev nD × Cell) := kcell_injective (congrArg Prod.fst h)
  exact Prod.ext (congrArg (fun x : Dev nD × Cell => x.1) h1) (Option.some.inj (congrArg (fun x : Dev nD × Cell => x.2) h1))
/-- All duties. -/
def ringToks : Finset (GSem nD τ sig × ℕ × Bool) := Finset.univ.map ⟨barTok, barTok_injective⟩ ∪ Finset.univ.map ⟨hopTok, hopTok_injective⟩

/-- The ghost state at the start. -/
def u₀ : UU :=
  (initOf (Pipeline.cells cfgs cellOf_inj) (Pipeline.launchToks cfgs cellOf_inj), initOf ringCells ringToks)

/-- The tokens of a device's own cells. -/
def toks (c : Dev nD) : sProp 𝕄 :=
  iprop(bigSep Finset.univ (fun b : Bool => dutyTok ER (barCell c) 0 b)
    ∗ bigSep Finset.univ (fun k : Bool × Hop => dutyTok ER ((c : Thread nD τ), osem k) 0 false))

/-- The duties, device by device. -/
theorem toks_eq : bigSep ringToks (fun x => (dutyTok ER x.1 x.2.1 x.2.2 : sProp 𝕄)) = bigSep Finset.univ fun c : Dev nD => toks c := by
  unfold ringToks
  rw [bigSep_union (Finset.disjoint_left.mpr fun x h1 h2 => by
    obtain ⟨a, -, rfl⟩ := Finset.mem_map.mp h1
    obtain ⟨b, -, h⟩ := Finset.mem_map.mp h2
    have e : (b.1, some b.2) = ((a.1, none) : Dev nD × Cell) := kcell_injective (congrArg Prod.fst h)
    exact absurd (congrArg Prod.snd e) (by simp)), bigSep_map, bigSep_map, bigSep_univ_prod, bigSep_univ_prod]
  unfold toks
  rw [bigSep_sep']; rfl

/-- What the launch deals a device. -/
def G (c : Dev nD) : sProp 𝕄 :=
  iprop((bigSep Finset.univ fun k : Cell => roundState ER (ringRd m ρ) (kcell (c, k)) 0)
    ∗ (bigSep Finset.univ fun k : Cell => iprop(atPos ER (kcell (c, k)) 0 ∅ 0 ∗ reached ER (kcell (c, k)) 0)) ∗ toks c)
/-- What it has once the cells' records are made. -/
def G' (c : Dev nD) : sProp 𝕄 := iprop(∃ K, ghost m ρ K c)

/-- The ghost state at the start is each device's share of it. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-- Over a device's cells: the barrier's, then the hops'. -/
theorem bigSep_cell (Φ : Cell → sProp 𝕄) : bigSep Finset.univ Φ = iprop(Φ none ∗ bigSep Finset.univ fun k : Bool × Hop => Φ (some k)) := by
  have h : (Finset.univ : Finset Cell) = insert none (Finset.univ.map ⟨Option.some, Option.some_injective _⟩) := by
    ext x; cases x <;> simp
  rw [h, bigSep_insert (by simp), bigSep_map]; rfl
/-- Over the hops' cells: the send cells, then the receive cells. -/
theorem bigSep_kinds (Φ : Bool × Hop → sProp 𝕄) :
    bigSep Finset.univ Φ = iprop((bigSep Finset.univ fun j : Hop => Φ (false, j)) ∗ bigSep Finset.univ fun j : Hop => Φ (true, j)) := by
  rw [bigSep_univ_prod, bigSep_univ_eq_bigSepL [false, true] (by decide) (by decide)]; rfl
/-- What is held for both values. -/
theorem bigSep_bool (Φ : Bool → sProp 𝕄) : bigSep Finset.univ Φ = iprop(Φ false ∗ Φ true) :=
  bigSep_univ_eq_bigSepL [false, true] (by decide) (by decide) Φ

/-- A device's scratch semaphores at zero, by the hops' two ends. -/
theorem ownSems0_eq (c : Dev nD) : (Pipeline.ownSems0 (Ix := Unit) (Name := ℕ) (U := UU) (Lvl := ℕ) (Val := Elt F) (τ := τ) osem c : sProp 𝕄)
    = iprop((bigSep Finset.univ fun j : Hop => semVal (sendCell c j) 0) ∗ bigSep Finset.univ fun j : Hop => semVal (recvCell c j) 0) := by
  unfold Pipeline.ownSems0; rw [bigSep_kinds]
/-- The semaphore outside the scratch is the barrier's. -/
theorem unscopedSems0_eq (c : Dev nD) : (unscopedSems0 c : sProp 𝕄) = semVal (barCell c) 0 := by
  unfold unscopedSems0; rw [bigSep_eq_bigSepL_of_eq [barS] (by decide +kernel) (by decide)]; rfl

/-- A device's semaphores at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [unscopedSems0_eq, bigSep_cell]
  unfold Pipeline.ownSems0
  iintro ⟨H, HB⟩
  isplitl [HB] <;> iassumption

/-- The records of one device's cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (ringRd m ρ) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (ringRd m ρ) (kcell (c, k)) 0)
      ⊢ (|={Set.univ}=> bigSep Finset.univ fun k : Cell => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What a device keeps: its positions and the tokens it pays with. -/
def linear (c : Dev nD) : sProp 𝕄 :=
  iprop((bigSep Finset.univ fun k : Cell => atPos ER (kcell (c, k)) 0 ∅ 0)
    ∗ (dutyTok ER (barCell (prv c)) 0 true ∗ dutyTok ER (barCell (nxt c)) 0 false)
    ∗ bigSep Finset.univ (fun j : Hop => iprop(dutyTok ER (sendCell c j) 0 false ∗ dutyTok ER (recvCell (tgt j c) j) 0 false)))

/-- The records and a device's own share. -/
theorem ghost_intro (K : Names) (c : Dev nD) : iprop(records m ρ K ∗ linear c) ⊢ (G' m ρ c : sProp 𝕄) := by
  unfold linear G' ghost
  rw [bigSep_cell, bigSep_kinds]
  iintro ⟨#HR, ⟨Hab, Has, Har⟩, ⟨HtP, HtN⟩, Hts⟩
  iexists K
  isplitr; · iexact HR
  isplitl [Hab HtP HtN]
  · isplitl [HtP]; · iexact HtP
    isplitl [HtN]; · iexact HtN
    iexact Hab
  isplitl [Hts]; · iexact Hts
  isplitl [Has] <;> iassumption

/-- Every hop turned its own way. -/
def turnAll : Dev nD × Hop ≃ Dev nD × Hop :=
  ⟨fun x => (tgt x.2 x.1, x.2), fun x => (frm x.2 x.1, x.2), fun x => Prod.ext (frm_tgt x.2 x.1) rfl, fun x => Prod.ext (tgt_frm x.2 x.1) rfl⟩

/-- The receive duties, handed to the devices that send. -/
theorem recv_around : (bigSep Finset.univ fun c : Dev nD => bigSep Finset.univ fun j : Hop => (dutyTok ER (recvCell c j) 0 false : sProp 𝕄))
    = bigSep Finset.univ fun c : Dev nD => bigSep Finset.univ fun j : Hop => dutyTok ER (recvCell (tgt j c) j) 0 false := by
  rw [← bigSep_univ_prod (fun x : Dev nD × Hop => (dutyTok ER (recvCell x.1 x.2) 0 false : sProp 𝕄)),
    bigSep_univ_equiv turnAll, bigSep_univ_prod]; rfl

/-- The tokens dealt to those who pay with them. -/
theorem toks_around : (bigSep Finset.univ fun c : Dev nD => (toks c : sProp 𝕄)) ⊢
    bigSep Finset.univ fun c : Dev nD => iprop((dutyTok ER (barCell (prv c)) 0 true ∗ dutyTok ER (barCell (nxt c)) 0 false)
      ∗ bigSep Finset.univ (fun j : Hop => iprop(dutyTok ER (sendCell c j) 0 false ∗ dutyTok ER (recvCell (tgt j c) j) 0 false))) := by
  unfold toks
  simp only [bigSep_bool, bigSep_kinds, bigSep_sep']
  rw [recv_around, bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H1 H2]
  · isplitl [H2]; · iexact H2
    iexact H1
  isplitl [H3] <;> iassumption

/-- All devices' shares, each with the duties that it fulfils. -/
theorem regroup :
    (bigSep Finset.univ fun c : Dev nD => iprop((bigSep Finset.univ fun k : Cell => iprop(∃ κ : ℕ, cellInv ER (ringRd m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (ringRd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (ringRd m ρ) κ (kcell ck) : sProp 𝕄))) $$ HI
  icases HK with ⟨%K, #HI⟩
  ihave Htk := (toks_around (F := F)) $$ Htok
  iapply (with_records (R := records m ρ K) fun c _ => ghost_intro m ρ K c)
  isplitr
  · unfold records; isplitl; · iexact HI
    iexact HR
  · unfold linear; rw [bigSep_sep' Finset.univ (fun c : Dev nD => (bigSep Finset.univ fun k : Cell => (atPos ER (kcell (c, k)) 0 ∅ 0 : sProp 𝕄)))]
    isplitl [Hat]; · iexact Hat
    iexact Htk

/-- From the semaphores and the shares to what each device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- Barriers are the same on the same device only, -/
theorem bar_eq_iff {a b : Dev nD} : barCell a = barCell b ↔ a = b :=
  ⟨fun h => congrArg (fun g : GSem nD τ sig => g.1.1) h, fun h => h ▸ rfl⟩
/-- receive semaphores on the same device for the same hop only, -/
theorem recv_eq_iff {a b : Dev nD} {i j : Hop} : recvCell a i = recvCell b j ↔ a = b ∧ i = j :=
  ⟨fun h => by
    have e : (a, some (true, i)) = ((b, some (true, j)) : Dev nD × Cell) := kcell_injective h
    exact ⟨congrArg Prod.fst e, congrArg Prod.snd (Option.some.inj (congrArg Prod.snd e))⟩, fun ⟨h1, h2⟩ => h1 ▸ h2 ▸ rfl⟩
/-- and the two kinds differ. -/
theorem recv_ne_bar {a b : Dev nD} {i : Hop} : recvCell a i ≠ barCell b := fun h => osem_ne_bar _ (congrArg Prod.snd h)

/-- What a device owes to one semaphore for its hops, -/
theorem owedBy_apply (d : Dev nD) (g : GSem nD τ sig) : owedBy d ∅ g () = ∑ j : Hop, if g = recvCell (tgt j d) j then N else 0 := by
  unfold owedBy
  rw [Finset.sdiff_empty, Finset.sum_apply, Finsupp.finset_sum_apply]
  exact Finset.sum_congr rfl fun j _ => by rw [tallyAt_apply]; simp

/-- what it owes to a barrier at the start, -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, tallyAt_apply, tallyAt_apply, owedBy_apply,
    Finset.sum_eq_zero fun j _ => if_neg fun h => recv_ne_bar h.symm, Nat.zero_add]
  congr 1
  · refine if_congr ?_ rfl rfl
    rw [and_iff_left rfl, bar_eq_iff]
    exact ⟨fun h => by rw [h, prv_nxt], fun h => by rw [h, nxt_prv]⟩
  · refine if_congr ?_ rfl rfl
    rw [and_iff_left rfl, bar_eq_iff]
    exact ⟨fun h => by rw [h, nxt_prv], fun h => by rw [h, prv_nxt]⟩

/-- and to a receive semaphore. -/
theorem owed_recv (d c : Dev nD) (j : Hop) : O₀ d (recvCell c j) () = if d = frm j c then N else 0 := by
  unfold O₀ O₁
  rw [Pi.add_apply, Finsupp.add_apply, Pi.add_apply, Finsupp.add_apply, tallyAt_apply, tallyAt_apply, owedBy_apply,
    if_neg (fun h => recv_ne_bar h.1), if_neg (fun h => recv_ne_bar h.1), Nat.add_zero,
    Finset.sum_eq_single j (fun i _ hi => if_neg fun h => hi (recv_eq_iff.mp h).2.symm) (fun h => absurd (Finset.mem_univ _) h)]
  refine if_congr ?_ rfl rfl
  rw [recv_eq_iff]
  exact ⟨fun h => by rw [h.1, frm_tgt], fun h => ⟨by rw [h, tgt_frm], rfl⟩⟩

/-- The barrier of a device is owed two units in all, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- and a receive semaphore one quarter. -/
theorem launch_recv (c : Dev nD) (j : Hop) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (frm j c) fun _ => N,
    if_pos (Finset.mem_univ _)]

/-- The receive semaphores of a device are different. -/
theorem recvSem_injective : Function.Injective fun j : Hop => osem (true, j) := fun i j h => by
  have e : (some (true, i) : Cell) = some (true, j) := csem_injective h
  exact congrArg Prod.snd (Option.some.inj e)

/-- So each device may count on its barrier and its arrivals. -/
theorem creds (c : Dev nD) :
    (Pipeline.launchCred O₀ c : sProp 𝕄) ⊢ iprop(cred (tallyAt (barCell c) () 2) ∗ bigSep Finset.univ fun j : Hop => cred (tallyAt (recvCell c j) () N)) := by
  unfold Pipeline.launchCred
  rw [bigSep_univ_at _ barS, launch_bar]
  refine sep_mono_right ?_
  refine BIBase.Entails.trans (bigSep_subset (t := Finset.univ.map ⟨fun j : Hop => osem (true, j), recvSem_injective⟩) fun x hx => ?_) (Idealize.SL.BI.BIBase.Entails.of_eq ?_)
  · obtain ⟨j, -, rfl⟩ := Finset.mem_map.mp hx
    exact Finset.mem_erase.mpr ⟨osem_ne_bar _, Finset.mem_univ _⟩
  · rw [bigSep_map]
    exact bigSep_congr fun j _ => congrArg cred (launch_recv c j)

/-! ## The run -/

/-- What a device starts with, put together, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- with its slots holding anything. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- What it ends with, taken apart. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%f, Hr⟩, HzB, HzS, HzV⟩
  isplitl [HzB]; · iexact HzB
  isplitl [HzS HzV]
  · isplitl [HzS] <;> iassumption
  iexists f; iexact Hr

/-- The waits on the staging copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert s; fin_cases w <;> decide +kernel) _ (by
      rcases t with ⟨_ | _, ht⟩
      · exact Or.inl rfl
      · exact Or.inr rfl)

/-- What the arrays hold at the end. -/
def finalA (c : Dev nD) (w : Fin cfg0.W) : Buf (Elt F) ((cfg0.win w).arr.view.loc (c : Thread nD τ)) := (dats m ρ 0 c).arrAt w cfg0.N

/-- Every window's array is what the launch's data say. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- @main on every device ends, with every array as the launch's data say and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingAttn

end
-- ==== Proof.Frames.lean ====
/-
# The frames

Each program ends with its arguments as they were and every counter at zero.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Pipeline.ValueKit.Geometry

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.SL.Sem

/-- The result's array ends as the body left it. -/
theorem finalA_out (c : Dev nD) : finalA m ρ c (5 : Fin 6) = outV m ρ c := by
  unfold finalA
  refine Dat.arrAt_eq_of_after_last (dat := dats m ρ 0 c) (5 : Fin 6) t₀ (by decide +kernel) _ (fun j => ?_)
  rfl

/-- The kernel's run: the arguments unchanged, the result `outV`, the counters zero. -/
theorem run_kernel : θ_run defs (onTc (τ := τ) (main (F := F))) ⟨m, fun _ => 0, ρ⟩ (fun r => (∀ c : Dev nD,
      r.2.mem ((c.tc : Thread nD τ).loc main_v1) = outV m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c (5 : Fin 6)).trans (finalA_out m ρ c),
     (h.1 c (0 : Fin 6)).trans ((dats m ρ 0 c).arrAt_in (0 : Fin 6) rfl _),
     (h.1 c (1 : Fin 6)).trans ((dats m ρ 0 c).arrAt_in (1 : Fin 6) rfl _),
     (h.1 c (2 : Fin 6)).trans ((dats m ρ 0 c).arrAt_in (2 : Fin 6) rfl _),
     (h.1 c (3 : Fin 6)).trans ((dats m ρ 0 c).arrAt_in (3 : Fin 6) rfl _),
     (h.1 c (4 : Fin 6)).trans ((dats m ρ 0 c).arrAt_in (4 : Fin 6) rfl _)⟩, h.2⟩) (run_main m ρ)

/-- At the rounded floats the named constant is the literal it was written as. -/
@[instance_reducible] def namedBits : Named Bits where
  named _ _ {φ} bits := FloatOps.ofBits φ bits
attribute [local instance] namedBits

set_option maxHeartbeats 0 in
set_option maxRecDepth 100000 in
/-- The kernel as written has the text of the one run above, with the literal in the named constant's place. -/
theorem body_same : Cert.Kernel.cc0_body (F := Bits) = Cert.KernelIdeal.cc0_body (F := Bits) := rfl

set_option maxHeartbeats 0 in
set_option maxRecDepth 100000 in
/-- So the two call the same bodies, -/
theorem calls_same : Cert.Kernel.defs₀ (F := Bits) = Cert.KernelIdeal.defs₀ (F := Bits) := by
  refine congrArg Defs.onTc (funext fun l => ?_)
  match l with
  | ⟨0, _⟩ => exact funext fun ⟨t, s⟩ => rfl
  | ⟨n + 1, h⟩ => exact absurd h (Nat.not_lt.2 (Nat.le_add_left _ _))
set_option maxRecDepth 100000 in
/-- in the same pipelines. -/
theorem defs_same : Cert.Kernel.defs (F := Bits) = Cert.KernelIdeal.defs (F := Bits) :=
  (congrArg (fun d => Pipeline.defs Cert.Kernel.pcfgs d) calls_same).trans rfl

set_option maxHeartbeats 0 in
set_option maxRecDepth 100000 in
/-- The kernel as written ends with its arguments unchanged and every counter at zero. -/
theorem frame_kernel : Cert.quiescent_Kernel := by
  intro m ρ _
  rw [defs_same]
  have h := run_kernel (F := Bits) m ρ
  have h' := (θ_run Cert.KernelIdeal.defs _ _).mono (fun r (h : _ ∧ _) => And.intro (fun c => (h.1 c).2) h.2) h
  exact h'

/-- So does the kernel over the reals, -/
theorem frame_ideal : Cert.quiescent_KernelIdeal := by
  intro m ρ _
  exact (θ_run Cert.KernelIdeal.defs _ _).mono (fun _ h => ⟨fun c => (h.1 c).2, h.2⟩) (run_kernel (F := Ideal) m ρ)

/-- on finite arguments too, -/
theorem frame_ideal_finite [Cert.Pre_finite_KernelIdeal.Facts] : Cert.quiescent_KernelIdeal_pre_finite_KernelIdeal := by
  intro m ρ _
  exact (θ_run Cert.KernelIdeal.defs _ _).mono (fun _ h => ⟨fun c => (h.1 c).2, h.2⟩) (run_kernel (F := Ideal) m ρ)

/-- and so does the reference, -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- on finite arguments too. -/
theorem frame_reference_finite [Cert.Pre_finite_ReferenceIdeal.Facts] : Cert.quiescent_ReferenceIdeal_pre_finite_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant: the literal rounds the logarithm, and is it over the reals. -/
theorem constant_kept : Cert.preserves_Kernel_KernelIdeal := by
  exact ⟨rfl, fun _ => IdealRules.named_const.ideal_named _ _ _ _ rfl, IdealRules.named_const.ideal_named_scalar _ _ _ _ rfl⟩

end Cert.RingAttn

end
-- ==== Proof.Model.lean ====
/-
# The attention as a function of real numbers

Rotated queries and keys, the sums of the weights and of the weighted values, and the facts about them the two programs
are compared through: the two spellings of the frequencies are one number, and a softmax does not change when a number
is subtracted from all its scores.
-/
module

public import Idealize.ShloMosaic.Lib.Pointwise

@[expose] public section

noncomputable section

namespace Cert.RingAttn

open Idealize.ShloMosaic

/-! ## Finite sums of finite numbers -/

/-- A sum of real numbers, taken over the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers. -/
theorem coe_dot {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- A sum times a real number that is not negative, its terms any extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A quotient of real numbers. -/
theorem coe_div {a b : ℝ} (hb : b ≠ 0) : Ideal.div (a : EReal) (b : EReal) = ((a / b : ℝ) : EReal) := by
  rw [Ideal.div_coe hb, ← EReal.coe_mul]
  exact congrArg _ (by rw [mul_one_div])

/-! ## The constants -/

/-- A small word read as an integer. -/
theorem toInt_small (k : ℕ) (hk : k < 2147483648) : (BitVec.ofNat 32 k).toInt = (k : ℤ) := by
  rw [BitVec.toInt_eq_toNat_cond, BitVec.toNat_ofNat]
  rw [Nat.mod_eq_of_lt (by omega), if_pos (by omega)]

/-- The word of 64, -/
theorem ofBits_64 : Ideal.ofBits .f32 0x42800000#32 = ((64 : ℝ) : EReal) := by
  simp [Ideal.ofBits, Ideal.ieee, -EReal.coe_mul]; norm_num
/-- of 10000, -/
theorem ofBits_10000 : Ideal.ofBits .f32 0x461C4000#32 = ((10000 : ℝ) : EReal) := by
  simp [Ideal.ofBits, Ideal.ieee, -EReal.coe_mul]; norm_num
/-- of an eighth, -/
theorem ofBits_eighth : Ideal.ofBits .f32 0x3E000000#32 = ((1 / 8 : ℝ) : EReal) := by
  simp [Ideal.ofBits, Ideal.ieee, -EReal.coe_mul]; norm_num
/-- of -1, -/
theorem ofBits_minus_one : Ideal.ofBits .f32 0xBF800000#32 = ((-1 : ℝ) : EReal) := by
  simp [Ideal.ofBits, Ideal.ieee, -EReal.coe_mul]; norm_num
/-- of -∞ -/
theorem ofBits_bot : Ideal.ofBits .f32 0xFF800000#32 = (⊥ : EReal) := by
  simp [Ideal.ofBits, Ideal.ieee, -EReal.coe_mul]
/-- and of ∞. -/
theorem ofBits_top : Ideal.ofBits .f32 0x7F800000#32 = (⊤ : EReal) := by
  simp [Ideal.ofBits, Ideal.ieee, -EReal.coe_mul]

/-! ## The rotation -/

/-- The frequency of the pair of columns `e`. -/
def freq (e : ℕ) : ℝ := Real.exp (-(((e * 2 : ℕ) : ℝ) / 64) * Real.log 10000)
/-- The frequency, as a reciprocal of a power. -/
theorem freq_eq_inv (e : ℕ) : (1 : ℝ) / Real.rpow 10000 (((e * 2 : ℕ) : ℝ) / 64) = freq e := by
  have h : Real.rpow 10000 (((e * 2 : ℕ) : ℝ) / 64) = Real.exp (Real.log 10000 * (((e * 2 : ℕ) : ℝ) / 64)) :=
    Real.rpow_def_of_pos (by norm_num) _
  rw [h, freq, one_div, ← Real.exp_neg]
  congr 1; ring

/-- The angle of column `n` in row `i` of the sequence. -/
def ang (i n : ℕ) : ℝ := (i : ℝ) * freq (n % 64 / 2)

/-- The other column of a column's pair, -/
def mate (n : Fin 256) : Fin 256 := if n.val % 2 = 0 then ⟨(n.val + 1) % 256, by omega⟩ else ⟨n.val - 1, by omega⟩
/-- and the sign it is taken with. -/
def sgn (n : Fin 256) : ℝ := if n.val % 2 = 0 then -1 else 1

/-- Row `i` of a projection `p`, rotated. -/
def spin (p : Fin 256 → ℝ) (i : ℕ) (n : Fin 256) : ℝ := p n * Real.cos (ang i n) + sgn n * p (mate n) * Real.sin (ang i n)

/-- A projection. -/
def proj {ι : Type} (x : Fin 2 → ι → Fin 512 → ℝ) (w : Fin 512 → Fin 256 → ℝ) (b : Fin 2) (i : ι) (n : Fin 256) : ℝ :=
  ∑ d, x b i d * w d n

/-- A projection with any extended reals for weights. -/
def projV {ι : Type} (x : Fin 2 → ι → Fin 512 → ℝ) (w : Fin 512 → Fin 256 → EReal) (b : Fin 2) (i : ι) (n : Fin 256) : EReal :=
  ∑ d, ((x b i d : ℝ) : EReal) * w d n

/-! ## The attention -/

/-- Column `e` of head `h`. -/
def hcol (h : Fin 4) (e : Fin 64) : Fin 256 := ⟨64 * h.val + e.val, by omega⟩

/-- The score of a query row and a key row in head `h`. -/
def score (q k : Fin 256 → ℝ) (h : Fin 4) : ℝ := (∑ e, q (hcol h e) * k (hcol h e)) * (1 / 8)
/-- The eighth may be taken into the query. -/
theorem score_scaled (q k : Fin 256 → ℝ) (h : Fin 4) : ∑ e : Fin 64, (q (hcol h e) * (1 / 8)) * k (hcol h e) = score q k h := by
  rw [score, Finset.sum_mul]
  exact Finset.sum_congr rfl fun e _ => by ring

/-- The weighted mean of the values `v`, weighted by the exponentials of the scores `s`. -/
def mean {ι : Type} [Fintype ι] (s : ι → ℝ) (v : ι → EReal) : EReal :=
  (∑ j, ((Real.exp (s j) : ℝ) : EReal) * v j) * ((1 / ∑ j, Real.exp (s j) : ℝ) : EReal)

/-- A sum of exponentials is positive. -/
theorem sum_exp_pos {ι : Type} [Fintype ι] [Nonempty ι] (s : ι → ℝ) : 0 < ∑ j, Real.exp (s j) :=
  Finset.sum_pos (fun j _ => Real.exp_pos _) Finset.univ_nonempty

/-- The mean with a number subtracted from all scores and each weight divided by their sum. -/
theorem mean_shift {ι : Type} [Fintype ι] [Nonempty ι] (s : ι → ℝ) (v : ι → EReal) (M : ℝ) :
    ∑ j, v j * ((Real.exp (s j - M) / ∑ l, Real.exp (s l - M) : ℝ) : EReal) = mean s v := by
  have hM : Real.exp M ≠ 0 := (Real.exp_pos M).ne'
  have hZ : (∑ l, Real.exp (s l)) ≠ 0 := (sum_exp_pos s).ne'
  have e : (∑ l, Real.exp (s l - M)) = (∑ l, Real.exp (s l)) / Real.exp M := by
    rw [Finset.sum_div]
    exact Finset.sum_congr rfl fun l _ => Real.exp_sub _ _
  rw [mean, sum_mul_coe _ _ (one_div_nonneg.mpr (sum_exp_pos s).le)]
  refine Finset.sum_congr rfl fun j _ => ?_
  have w : Real.exp (s j - M) / ∑ l, Real.exp (s l - M) = Real.exp (s j) * (1 / ∑ l, Real.exp (s l)) := by
    rw [e, Real.exp_sub]; field_simp
  rw [w, EReal.coe_mul, ← mul_assoc, mul_comm (v j)]

section Whole
variable (X : Fin 2 → Fin 2048 → Fin 512 → ℝ) (Wq Wk : Fin 512 → Fin 256 → ℝ) (Wv : Fin 512 → Fin 256 → EReal) (O : Fin 256 → Fin 512 → EReal)

/-- Rotated rows of the sequence. -/
def turned (W : Fin 512 → Fin 256 → ℝ) (b : Fin 2) (i : Fin 2048) (n : Fin 256) : ℝ := spin (proj X W b i) i n
/-- The attention of a row, in a column. -/
def attn (b : Fin 2) (i : Fin 2048) (n : Fin 256) : EReal :=
  mean (fun j => score (turned X Wq b i) (turned X Wk b j) ⟨n.val / 64, by omega⟩) (fun j => projV X Wv b j n)
/-- The output of a row, in a column. -/
def outR (b : Fin 2) (i : Fin 2048) (d : Fin 512) : EReal := ∑ n, attn X Wq Wk Wv b i n * O n d

end Whole

/-- The largest of finitely many real numbers is a real number. -/
theorem fold_max_coe {ι : Type} [Fintype ι] [Nonempty ι] (s : ι → ℝ) :
    ∃ M : ℝ, (Finset.univ.fold max (⊥ : EReal) fun j => ((s j : ℝ) : EReal)) = ((M : ℝ) : EReal) := by
  classical
  have key : ∀ t : Finset ι, (t.fold max (⊥ : EReal) fun j => ((s j : ℝ) : EReal)) = ⊥ ∧ t = ∅
      ∨ ∃ M : ℝ, (t.fold max (⊥ : EReal) fun j => ((s j : ℝ) : EReal)) = ((M : ℝ) : EReal) := by
    intro t
    induction t using Finset.induction_on with
    | empty => exact .inl ⟨by simp, rfl⟩
    | insert a t ha ih =>
      refine .inr ?_
      rw [Finset.fold_insert ha]
      rcases ih with ⟨h, _⟩ | ⟨M, h⟩
      · exact ⟨s a, by rw [h]; simp⟩
      · exact ⟨max (s a) M, by rw [h]; exact (EReal.coe_strictMono.monotone.map_max (a := s a) (b := M)).symm⟩
  rcases key Finset.univ with ⟨_, h⟩ | h
  · exact absurd h Finset.univ_nonempty.ne_empty
  · exact h

end Cert.RingAttn

end
-- ==== Proof.KernelValue.lean ====
/-
# What a device computes, as real numbers

Each stage of a device's computation read at an index, when its operands are real numbers.
-/
module

public import proofs.«01_k».proof.Proof.Output
public import proofs.«01_k».proof.Proof.Model

@[expose] public section

set_option maxRecDepth 16384

noncomputable section

namespace Cert.RingAttn

open Cert.KernelIdeal Cert.KernelIdeal.Gen
open Idealize.ShloMosaic Idealize.ShloMosaic.TcCoe

/-! ## The projections -/

/-- The batch of row `r` of a device's rows, -/
def rb (r : Fin 256) : Fin 2 := ⟨r.val / 128, by omega⟩
/-- and its place in the batch. -/
def ri (r : Fin 256) : Fin 128 := ⟨r.val % 128, by omega⟩

/-- A projection of a device's rows. -/
theorem proj_at (x : Vec Ideal S2x128x512 .f32) (w : Vec Ideal S512x256 .f32) (X : Fin 2 → Fin 128 → Fin 512 → ℝ) (W : Fin 512 → Fin 256 → ℝ)
    (hx : ∀ b i d, x (ix3 b i d) = ((X b i d : ℝ) : EReal)) (hw : ∀ d n, w (ix2 d n) = ((W d n : ℝ) : EReal)) (r : Fin 256) (n : Fin 256) :
    k0_pay2 (F := Ideal) x w (ix2 r n) = ((proj X W (rb r) (ri r) n : ℝ) : EReal) := by
  pointwise [k0_pay2, k0_pay1, hx, hw]
  exact coe_dot _ _ _

/-- The same with any extended reals for weights. -/
theorem projV_at (x : Vec Ideal S2x128x512 .f32) (w : Vec Ideal S512x256 .f32) (X : Fin 2 → Fin 128 → Fin 512 → ℝ) (W : Fin 512 → Fin 256 → EReal)
    (hx : ∀ b i d, x (ix3 b i d) = ((X b i d : ℝ) : EReal)) (hw : ∀ d n, w (ix2 d n) = W d n) (r : Fin 256) (n : Fin 256) :
    k0_pay2 (F := Ideal) x w (ix2 r n) = projV X W (rb r) (ri r) n := by
  pointwise [k0_pay2, k0_pay1, hx, hw]
  rfl

/-! ## The angles -/

/-- The word of a row's place in the sequence. -/
theorem row_word (c : Dev nD) (r : Fin 256) :
    IntOp.addi (IntOp.remsi ArithUnit.vector (BitVec.ofNat 32 r.val) 128#32) (Scalar.muli (devWord c) 128#32) = BitVec.ofNat 32 (128 * c.val + r.val % 128) := by
  have h1 : ∀ r : Fin 256, IntOp.remsi ArithUnit.vector (BitVec.ofNat 32 r.val) 128#32 = BitVec.ofNat 32 (r.val % 128) := by decide +kernel
  have h2 : ∀ c : Dev nD, Scalar.muli (devWord c) 128#32 = BitVec.ofNat 32 (128 * c.val) := by decide +kernel
  rw [h1, h2, Nat.add_comm, BitVec.ofNat_add]
  rfl
/-- The word of a column's exponent. -/
theorem expo_word (n : Fin 256) :
    (IntOp.muli
      (Scalar.select
        (IntOp.andi
          (IntOp.cmpi CmpIPredicate.ne
            (IntOp.subi
              (BitVec.setWidth 32 (IntOp.cmpi CmpIPredicate.sgt (IntOp.remsi ArithUnit.vector (BitVec.ofNat 32 n.val) 64#32) 0#32))
              (BitVec.setWidth 32 (IntOp.cmpi CmpIPredicate.slt (IntOp.remsi ArithUnit.vector (BitVec.ofNat 32 n.val) 64#32) 0#32)))
            (Scalar.subi (Scalar.extui (Scalar.cmpi CmpIPredicate.sgt 2#32 0#32)) (Scalar.extui (Scalar.cmpi CmpIPredicate.slt 2#32 0#32))))
          (IntOp.cmpi CmpIPredicate.ne (IntOp.remsi ArithUnit.vector (IntOp.remsi ArithUnit.vector (BitVec.ofNat 32 n.val) 64#32) 2#32) 0#32))
        (IntOp.subi (IntOp.divsi ArithUnit.vector (IntOp.remsi ArithUnit.vector (BitVec.ofNat 32 n.val) 64#32) 2#32) 1#32)
        (IntOp.divsi ArithUnit.vector (IntOp.remsi ArithUnit.vector (BitVec.ofNat 32 n.val) 64#32) 2#32))
      2#32) = BitVec.ofNat 32 (n.val % 64 / 2 * 2) := by
  revert n; decide +kernel
/-- The named constant. -/
theorem log_value : (Named.named κ "log10000" 0x41135D8E#32 : Ideal .f32) = ((Real.log 10000 : ℝ) : EReal) := by
  simp [Named.named, κ]

/-- The angle of a device's row `r` and column `n`. -/
theorem ang_at (c : Dev nD) (r n : Fin 256) :
    k0_pay9 (k0_pay5 (F := Ideal) (devWord c)) k0_pay6 2#32 k0_pay7 k0_pay8 (Scalar.extui (Scalar.cmpi .sgt 2#32 0#32)) (ix2 r n)
      = ((ang (128 * c.val + r.val % 128) n : ℝ) : EReal) := by
  have hc := c.isLt
  pointwise [k0_pay9, k0_pay8, k0_pay7, k0_pay6, k0_pay5]
  rw [row_word, expo_word, log_value, ofBits_64]
  show (((BitVec.ofNat 32 (128 * c.val + r.val % 128)).toInt : ℝ) : EReal)
    * Ideal.exp ((0 - Ideal.div (((BitVec.ofNat 32 (n.val % 64 / 2 * 2)).toInt : ℝ) : EReal) ((64 : ℝ) : EReal)) * ((Real.log 10000 : ℝ) : EReal)) = _
  rw [toInt_small _ (by have : nD = 16 := rfl; omega), toInt_small _ (by omega), coe_div (by norm_num), zero_sub, ← EReal.coe_neg, ← EReal.coe_mul,
    Ideal.exp_coe, ← EReal.coe_mul]
  rfl
/-- The cosines of the angles, -/
theorem cos_at (c : Dev nD) (r n : Fin 256) :
    cosP (F := Ideal) c (ix2 r n) = ((Real.cos (ang (128 * c.val + r.val % 128) n) : ℝ) : EReal) :=
  congrArg Ideal.cos (ang_at c r n)
/-- and their sines. -/
theorem sin_at (c : Dev nD) (r n : Fin 256) :
    sinP (F := Ideal) c (ix2 r n) = ((Real.sin (ang (128 * c.val + r.val % 128) n) : ℝ) : EReal) :=
  congrArg Ideal.sin (ang_at c r n)

/-! ## The rotation -/

/-- The matrix of the rotation: each column has one entry, in its mate's row. -/
theorem rot_at (j n : Fin 256) :
    k0_pay15 (F := Ideal) k0_pay12 k0_pay13 (Scalar.ofBits .f32 0x00000000#32) (k0_pay14 (F := Ideal)) (ix2 j n)
      = (((if j = mate n then sgn n else 0) : ℝ) : EReal) := by
  have p0 : ∀ n : Fin 256, IntOp.cmpi CmpIPredicate.eq (IntOp.remsi ArithUnit.vector (BitVec.ofNat 32 n.val) 2#32) 0#32 = if n.val % 2 = 0 then 1#1 else 0#1 := by
    decide +kernel
  have p1 : ∀ n : Fin 256, IntOp.cmpi CmpIPredicate.eq (IntOp.remsi ArithUnit.vector (BitVec.ofNat 32 n.val) 2#32) 1#32 = if n.val % 2 = 0 then 0#1 else 1#1 := by
    decide +kernel
  have q0 : ∀ n : Fin 256, n.val % 2 = 0 → IntOp.addi (BitVec.ofNat 32 n.val) 1#32 = BitVec.ofNat 32 (mate n).val := by decide +kernel
  have q1 : ∀ n : Fin 256, ¬ n.val % 2 = 0 → IntOp.subi (BitVec.ofNat 32 n.val) 1#32 = BitVec.ofNat 32 (mate n).val := by decide +kernel
  have eq : ∀ a b : Fin 256, IntOp.cmpi CmpIPredicate.eq (BitVec.ofNat 32 a.val) (BitVec.ofNat 32 b.val) = if a = b then 1#1 else 0#1 := by
    intro a b
    by_cases h : a = b
    · subst h; simp [IntOp.cmpi]
    · have h' : BitVec.ofNat 32 a.val ≠ BitVec.ofNat 32 b.val := fun e => h (Fin.ext (by
        have := congrArg BitVec.toNat e
        rw [BitVec.toNat_ofNat, BitVec.toNat_ofNat, Nat.mod_eq_of_lt (by omega), Nat.mod_eq_of_lt (by omega)] at this
        exact this))
      simp [IntOp.cmpi, h, beq_eq_false_iff_ne.mpr h']
  pointwise [k0_pay12, k0_pay13, k0_pay14, k0_pay15]
  rw [p0, p1, ofBits_minus_one]
  by_cases hn : n.val % 2 = 0
  · rw [q0 n hn, eq]
    by_cases hj : j = mate n <;> simp [hn, hj, sgn, Scalar.select, IntOp.andi]
  · rw [q1 n hn, eq]
    by_cases hj : j = mate n <;> simp [hn, hj, sgn, Scalar.select, IntOp.andi]

/-- A row of real numbers rotated. -/
theorem spin_at (c : Dev nD) (p : FVec Ideal S256x256 .f32) (P : Fin 256 → Fin 256 → ℝ) (hp : ∀ r n, p (ix2 r n) = ((P r n : ℝ) : EReal)) (r n : Fin 256) :
    k0_pay16 (F := Ideal) p (cosP c) (sinP c) k0_pay12 k0_pay13 (Scalar.ofBits .f32 0x00000000#32) (k0_pay14 (F := Ideal)) (ix2 r n)
      = ((spin (P r) (128 * c.val + r.val % 128) n : ℝ) : EReal) := by
  have hz : (Scalar.ofBits .f32 0x00000000#32 : Ideal .f32) = 0 := Ideal.ofBits_zero_f32
  have hr := fun j => rot_at j n
  rw [hz] at hr
  pointwise [k0_pay16, hp, cos_at, sin_at, hr]
  rw [coe_dot, ← EReal.coe_mul, ← EReal.coe_mul, ← EReal.coe_add]
  refine congrArg _ ?_
  rw [Finset.sum_eq_single (mate n) (fun j _ h => by rw [if_neg h, mul_zero]) (fun h => absurd (Finset.mem_univ _) h), if_pos rfl, spin]
  ring

/-- The scaled queries. -/
theorem q_at (p : FVec Ideal S256x256 .f32) (P : Fin 256 → Fin 256 → ℝ) (hp : ∀ r n, p (ix2 r n) = ((P r n : ℝ) : EReal)) (r n : Fin 256) :
    k0_pay34 (F := Ideal) p (ix2 r n) = ((P r n * (1 / 8) : ℝ) : EReal) := by
  pointwise [k0_pay34, hp]
  rw [ofBits_eighth, ← EReal.coe_mul]

/-- The rotated keys beside the values. -/
theorem kv_at (c : Dev nD) (k v : FVec Ideal S256x256 .f32) (K : Fin 256 → Fin 256 → ℝ) (V : Fin 256 → Fin 256 → EReal)
    (hk : ∀ r n, k (ix2 r n) = ((K r n : ℝ) : EReal)) (hv : ∀ r n, v (ix2 r n) = V r n) (r : Fin 256) (n : Fin 512) :
    k0_pay17 (F := Ideal) k v (cosP c) (sinP c) k0_pay12 k0_pay13 (Scalar.ofBits .f32 0x00000000#32) (k0_pay14 (F := Ideal)) (ix3 0 r n)
      = if h : n.val < 256 then ((spin (K r) (128 * c.val + r.val % 128) ⟨n.val, h⟩ : ℝ) : EReal) else V r ⟨n.val - 256, by omega⟩ := by
  have hs := fun n' => spin_at c k K hk r n'
  pointwise [k0_pay16] at hs
  pointwise [k0_pay17, hv]
  by_cases h : n.val < 256
  · rw [dif_pos h, dif_pos h]
    exact hs ⟨n.val, h⟩
  · rw [dif_neg h, dif_neg h]

end Cert.RingAttn

end
-- ==== Proof.KernelAttention.lean ====
/-
# The attention of a device, as real numbers

The sums over the slots read at an index, and the quotient of the two sums after the sixteen slots.
-/
module

public import proofs.«01_k».proof.Proof.KernelValue

@[expose] public section

set_option maxRecDepth 16384

noncomputable section

namespace Cert.RingAttn

open Cert.KernelIdeal Cert.KernelIdeal.Gen
open Idealize.ShloMosaic Idealize.ShloMosaic.TcCoe

/-- The exponential of the product of a query row and a key row. -/
def wgt (Q : Fin 128 → Fin 64 → ℝ) (K : Fin 128 → Fin 64 → ℝ) (i t : Fin 128) : ℝ := Real.exp (∑ e, Q i e * K t e)

section Slots
variable (q : FVec Ideal S128x64 .bf16) (Q : Fin 128 → Fin 64 → ℝ) (hq : ∀ i e, q (ix2 i e) = ((Q i e : ℝ) : EReal))
include hq

/-- One slot more in the sum of the weights, -/
theorem sum1_at (l : FVec Ideal S128x1 .f32) (L : ℝ) (k : Vec Ideal S1x128x64 .bf16) (K : Fin 128 → Fin 64 → ℝ)
    (hk : ∀ t e, k (ix3 0 t e) = ((K t e : ℝ) : EReal)) (i : Fin 128) (hl : l (ix2 i 0) = ((L : ℝ) : EReal)) :
    sum1 l q k (ix2 i 0) = ((L + ∑ t, wgt Q K i t : ℝ) : EReal) := by
  pointwise [sum1, hq, hk, hl]
  simp only [coe_dot, Ideal.exp_coe, coe_sum, ← EReal.coe_add]
  rfl
/-- and in the weighted sum of the values. -/
theorem acc1_at (a : FVec Ideal S128x64 .f32) (A : EReal) (k v : Vec Ideal S1x128x64 .bf16) (K : Fin 128 → Fin 64 → ℝ) (V : Fin 128 → Fin 64 → EReal)
    (hk : ∀ t e, k (ix3 0 t e) = ((K t e : ℝ) : EReal)) (hv : ∀ t e, v (ix3 0 t e) = V t e) (i : Fin 128) (d : Fin 64)
    (ha : a (ix2 i d) = A) :
    acc1 a q k v (ix2 i d) = A + ∑ t, ((wgt Q K i t : ℝ) : EReal) * V t d := by
  pointwise [acc1, hq, hk, hv, ha]
  simp only [coe_dot, Ideal.exp_coe]
  rfl
/-- Two slots more in the sum of the weights, -/
theorem sum2_at (l : FVec Ideal S128x1 .f32) (L : ℝ) (k k' : Vec Ideal S1x128x64 .bf16) (K K' : Fin 128 → Fin 64 → ℝ)
    (hk : ∀ t e, k (ix3 0 t e) = ((K t e : ℝ) : EReal)) (hk' : ∀ t e, k' (ix3 0 t e) = ((K' t e : ℝ) : EReal)) (i : Fin 128)
    (hl : l (ix2 i 0) = ((L : ℝ) : EReal)) :
    sum2 l q k k' (ix2 i 0) = ((L + (∑ t, wgt Q K i t + ∑ t, wgt Q K' i t) : ℝ) : EReal) := by
  pointwise [sum2, both, hq, hk, hk', hl]
  simp only [coe_dot, Ideal.exp_coe, coe_sum, ← EReal.coe_add]
  rfl
/-- and in the weighted sum of the values. -/
theorem acc2_at (a : FVec Ideal S128x64 .f32) (A : EReal) (k k' v v' : Vec Ideal S1x128x64 .bf16) (K K' : Fin 128 → Fin 64 → ℝ)
    (V V' : Fin 128 → Fin 64 → EReal)
    (hk : ∀ t e, k (ix3 0 t e) = ((K t e : ℝ) : EReal)) (hk' : ∀ t e, k' (ix3 0 t e) = ((K' t e : ℝ) : EReal))
    (hv : ∀ t e, v (ix3 0 t e) = V t e) (hv' : ∀ t e, v' (ix3 0 t e) = V' t e) (i : Fin 128) (d : Fin 64)
    (ha : a (ix2 i d) = A) :
    acc2 a q k k' v v' (ix2 i d) = A + (∑ t, ((wgt Q K i t : ℝ) : EReal) * V t d + ∑ t, ((wgt Q K' i t : ℝ) : EReal) * V' t d) := by
  pointwise [acc2, both, hq, hk, hk', hv, hv', ha]
  simp only [coe_dot, Ideal.exp_coe]
  rfl

omit hq
/-- A sum over slot 0, then the slots two by two, -/
def upTo {M : Type} [AddCommMonoid M] (f : Fin 16 → M) : ℕ → M
  | 0 => 0 + f 0
  | n + 1 => upTo f n + (f (Fin.ofNat 16 (n + 1)) + f (Fin.ofNat 16 (15 - n)))
/-- then slot 8, is the sum over the slots. -/
theorem upTo_all {M : Type} [AddCommMonoid M] (f : Fin 16 → M) : upTo f 7 + f 8 = ∑ s, f s := by
  rw [← List.sum_ofFn]
  show 0 + f 0 + (f 1 + f 15) + (f 2 + f 14) + (f 3 + f 13) + (f 4 + f 12) + (f 5 + f 11) + (f 6 + f 10) + (f 7 + f 9) + f 8
    = f 0 + (f 1 + (f 2 + (f 3 + (f 4 + (f 5 + (f 6 + (f 7 + (f 8 + (f 9 + (f 10 + (f 11 + (f 12 + (f 13 + (f 14 + (f 15 + 0)))))))))))))))
  abel

include hq
variable (k v : Fin 16 → Vec Ideal S1x128x64 .bf16) (K : Fin 16 → Fin 128 → Fin 64 → ℝ) (V : Fin 16 → Fin 128 → Fin 64 → EReal)
  (hk : ∀ s t e, k s (ix3 0 t e) = ((K s t e : ℝ) : EReal)) (hv : ∀ s t e, v s (ix3 0 t e) = V s t e)
include hk

/-- The sum of the weights after the first pairs of slots, -/
theorem sumN_at (i : Fin 128) (n : ℕ) : sumN q k n (ix2 i 0) = ((upTo (fun s => ∑ t, wgt Q (K s) i t) n : ℝ) : EReal) := by
  induction n with
  | zero => exact sum1_at q Q hq _ 0 _ _ (hk 0) i Ideal.ofBits_zero_f32
  | succ n ih => exact sum2_at q Q hq _ _ _ _ _ _ (hk _) (hk _) i ih
include hv
/-- and the weighted sum of the values. -/
theorem accN_at (i : Fin 128) (d : Fin 64) (n : ℕ) :
    accN q k v n (ix2 i d) = upTo (fun s => ∑ t, ((wgt Q (K s) i t : ℝ) : EReal) * V s t d) n := by
  induction n with
  | zero => exact acc1_at q Q hq _ 0 _ _ _ _ (hk 0) (hv 0) i d Ideal.ofBits_zero_f32
  | succ n ih => exact acc2_at q Q hq _ _ _ _ _ _ _ _ _ _ (hk _) (hk _) (hv _) (hv _) i d ih
/-- The quotient after the sixteen slots. -/
theorem ctx_at (i : Fin 128) (d : Fin 64) :
    ctx q k v (ix2 i d) = (∑ s, ∑ t, ((wgt Q (K s) i t : ℝ) : EReal) * V s t d) * ((1 / ∑ s, ∑ t, wgt Q (K s) i t : ℝ) : EReal) := by
  have hs := sum1_at q Q hq _ _ (k 8) (K 8) (hk 8) i (sumN_at q Q hq k K hk i 7)
  have ha := acc1_at q Q hq _ _ (k 8) (v 8) (K 8) (V 8) (hk 8) (hv 8) i d (accN_at q Q hq k v K V hk hv i d 7)
  rw [upTo_all (fun s => ∑ t, wgt Q (K s) i t)] at hs
  rw [upTo_all (fun s => ∑ t, ((wgt Q (K s) i t : ℝ) : EReal) * V s t d)] at ha
  pointwise [ctx]
  rw [ha, hs, Ideal.div_coe]
  exact (Finset.sum_pos (fun s _ => sum_exp_pos _) Finset.univ_nonempty).ne'
omit hq hk hv
end Slots

/-! ## The blocks of one batch and head -/

/-- A device's row `i` of batch `b`. -/
def brow (b : Fin 2) (i : Fin 128) : Fin 256 := ⟨128 * b.val + i.val, by omega⟩

/-- A head of a batch's queries, at an index. -/
theorem qblk_at (p : FVec Ideal S256x256 .bf16) (b : Fin 2) (h : Fin 4) (i : Fin 128) (e : Fin 64) :
    qblk p b h (ix2 i e) = p (ix2 (brow b i) (hcol h e)) := by
  pointwise [qblk]
  rfl

variable (m : (ℓ : Loc nD τ sig) → Buf (Elt Ideal) ℓ) (ρ : Dev nD → PrngReg)

/-- A block of a slot is a block of what its owner stored. -/
theorem sblk_at (c : Dev nD) (s : Fin 16) (b : Fin 2) (g : Fin 8) (t : Fin 128) (e : Fin 64) :
    sblk m ρ c s b g (ix3 0 t e) = kvP m ρ (own c s) (ix3 0 (brow b t) ⟨64 * g.val + e.val, by omega⟩) := by
  have h : sblk m ρ c s b g (ix3 0 t e) = kvfin m ρ c (ix3 s (brow b t) ⟨64 * g.val + e.val, by omega⟩) := by
    refine congrArg (kvfin m ρ c) ?_
    funext a
    refine Fin.ext ?_
    fin_cases a
    · show s.val + 1 * 0 = s.val
      omega
    · show 128 * b.val + 1 * t.val = 128 * b.val + t.val
      omega
    · show 64 * g.val + 1 * e.val = 64 * g.val + e.val
      omega
  rw [h]
  refine congrArg (kvP m ρ (own c s)) ?_
  funext a
  fin_cases a <;> rfl

/-! ## What the device writes -/

/-- A head of the quotients side by side, over the head of its column. -/
theorem rows_at (c : Dev nD) (b : Fin 2) (i : Fin 128) (n : Fin 256) :
    rowsAt m ρ c b (ix2 i n) = ctxAt m ρ c b ⟨n.val / 64, by omega⟩ (ix2 i ⟨n.val % 64, by omega⟩) := by
  have key : ∀ (h h' : Fin 4) (e e' : Fin 64), h = h' → e = e' → ctxAt m ρ c b h (ix2 i e) = ctxAt m ρ c b h' (ix2 i e') := by
    rintro h _ e _ rfl rfl; rfl
  pointwise [rowsAt]
  by_cases h0 : n.val < 64
  · rw [dif_pos h0]; exact key _ _ _ _ (Fin.ext (by simp; omega)) (Fin.ext (by simp; omega))
  rw [dif_neg h0]
  by_cases h1 : n.val - 64 < 64
  · rw [dif_pos h1]; exact key _ _ _ _ (Fin.ext (by simp; omega)) (Fin.ext (by simp; omega))
  rw [dif_neg h1]
  by_cases h2 : n.val - 64 - 64 < 64
  · rw [dif_pos h2]; exact key _ _ _ _ (Fin.ext (by simp; omega)) (Fin.ext (by simp; omega))
  rw [dif_neg h2]
  exact key _ _ _ _ (Fin.ext (by simp; omega)) (Fin.ext (by simp; omega))

/-- The quotients times the output matrix. -/
theorem out_at (c : Dev nD) (C : Fin 2 → Fin 128 → Fin 256 → EReal) (O : Fin 256 → Fin 512 → EReal)
    (hC : ∀ b i n, rowsAt m ρ c b (ix2 i n) = C b i n) (hO : ∀ n d, wostg m ρ c (ix2 n d) = O n d)
    (b : Fin 2) (i : Fin 128) (d : Fin 512) : outV m ρ c (ix3 b i d) = ∑ n, C b i n * O n d := by
  have key : ∀ (b b' : Fin 2) (i i' : Fin 128) (n : Fin 256), b = b' → i = i' → rowsAt m ρ c b (ix2 i n) = C b' i' n := by
    rintro b _ i _ n rfl rfl; exact hC b i n
  pointwise [outV, hO]
  refine @Finset.sum_congr _ EReal _ _ _ _ _ rfl fun n _ => congrArg (fun y : EReal => y * O n d) ?_
  by_cases h : b.val * 128 + i.val < 128
  · rw [dif_pos h]; exact key _ _ _ _ _ (Fin.ext (by simp; omega)) (Fin.ext (by simp; omega))
  · rw [dif_neg h]; exact key _ _ _ _ _ (Fin.ext (by simp; omega)) (Fin.ext (by simp; omega))

/-! ## The whole attention -/

/-- Row `i` of device `c`, in the sequence. -/
def gi (c : Dev nD) (i : Fin 128) : Fin 2048 := ⟨128 * c.val + i.val, by have := c.isLt; have e : nD = 16 := rfl; omega⟩

/-- The rows of the slots are the rows of the sequence. -/
theorem sum_slots {M : Type} [AddCommMonoid M] (c : Dev nD) (f : Fin 2048 → M) : ∑ s, ∑ t, f (gi (own c s) t) = ∑ j, f j := by
  have hb : ∀ c : Dev nD, Function.Bijective (own c) := by decide +kernel
  rw [(hb c).sum_comp fun d => ∑ t, f (gi d t)]
  refine Eq.trans ?_ (Fin.sum_univ_tiles 16 128 rfl f).symm
  refine Finset.sum_congr rfl fun d _ => Finset.sum_congr rfl fun t _ => congrArg f (Fin.ext ?_)
  show 128 * d.val + t.val = d.val * 128 + t.val
  omega

section Whole
variable (X : Fin 2 → Fin 2048 → Fin 512 → ℝ) (Wq Wk : Fin 512 → Fin 256 → ℝ) (Wv : Fin 512 → Fin 256 → EReal) (O : Fin 256 → Fin 512 → EReal)

/-- Rows of a device are rows of the sequence. -/
theorem proj_row (W : Fin 512 → Fin 256 → ℝ) (c : Dev nD) (b : Fin 2) (i : Fin 128) :
    proj (fun b i => X b (gi c i)) W (rb (brow b i)) (ri (brow b i)) = proj X W b (gi c i) := by
  have h1 : rb (brow b i) = b := Fin.ext (by show (128 * b.val + i.val) / 128 = b.val; omega)
  have h2 : ri (brow b i) = i := Fin.ext (by show (128 * b.val + i.val) % 128 = i.val; omega)
  rw [h1, h2]; rfl
/-- The same with any extended reals for weights. -/
theorem projV_row (W : Fin 512 → Fin 256 → EReal) (c : Dev nD) (b : Fin 2) (i : Fin 128) :
    projV (fun b i => X b (gi c i)) W (rb (brow b i)) (ri (brow b i)) = projV X W b (gi c i) := by
  have h1 : rb (brow b i) = b := Fin.ext (by show (128 * b.val + i.val) / 128 = b.val; omega)
  have h2 : ri (brow b i) = i := Fin.ext (by show (128 * b.val + i.val) % 128 = i.val; omega)
  rw [h1, h2]; rfl
/-- Rotated rows of a device are rotated rows of the sequence. -/
theorem spin_row (W : Fin 512 → Fin 256 → ℝ) (c : Dev nD) (b : Fin 2) (i : Fin 128) (n : Fin 256) :
    spin (proj (fun b i => X b (gi c i)) W (rb (brow b i)) (ri (brow b i))) (128 * c.val + (brow b i).val % 128) n = turned X W b (gi c i) n := by
  have h : 128 * c.val + (brow b i).val % 128 = (gi c i).val := by
    show 128 * c.val + (128 * b.val + i.val) % 128 = 128 * c.val + i.val; omega
  rw [proj_row, h]; rfl
variable (hx : ∀ c b i d, xstg m ρ c (ix3 b i d) = ((X b (gi c i) d : ℝ) : EReal))
  (hq : ∀ c d n, wqstg m ρ c (ix2 d n) = ((Wq d n : ℝ) : EReal)) (hk : ∀ c d n, wkstg m ρ c (ix2 d n) = ((Wk d n : ℝ) : EReal))
  (hv : ∀ c d n, wvstg m ρ c (ix2 d n) = Wv d n) (ho : ∀ c n d, wostg m ρ c (ix2 n d) = O n d)

include hx
include hq in
/-- A device's scaled queries, -/
theorem qP_at (c : Dev nD) (b : Fin 2) (i : Fin 128) (n : Fin 256) :
    qP m ρ c (ix2 (brow b i) n) = ((turned X Wq b (gi c i) n * (1 / 8) : ℝ) : EReal) := by
  have e := q_at _ _ (spin_at c _ _ (proj_at (xstg m ρ c) (wqstg m ρ c) _ _ (hx c) (hq c))) (brow b i) n
  exact e.trans (congrArg (fun y : ℝ => ((y * (1 / 8) : ℝ) : EReal)) (spin_row X Wq c b i n))
include hk hv in
/-- its keys -/
theorem kP_at (c : Dev nD) (b : Fin 2) (i : Fin 128) (n : Fin 256) :
    kvP m ρ c (ix3 0 (brow b i) ⟨n.val, by omega⟩) = ((turned X Wk b (gi c i) n : ℝ) : EReal) := by
  have e := kv_at c _ _ _ _ (proj_at (xstg m ρ c) (wkstg m ρ c) _ _ (hx c) (hk c)) (projV_at (xstg m ρ c) (wvstg m ρ c) _ _ (hx c) (hv c)) (brow b i) ⟨n.val, by omega⟩
  rw [dif_pos n.isLt] at e
  exact e.trans (congrArg (fun y : ℝ => (y : EReal)) (spin_row X Wk c b i n))
include hk hv in
/-- and its values. -/
theorem vP_at (c : Dev nD) (b : Fin 2) (i : Fin 128) (n : Fin 256) :
    kvP m ρ c (ix3 0 (brow b i) ⟨256 + n.val, by omega⟩) = projV X Wv b (gi c i) n := by
  have e := kv_at c _ _ _ _ (proj_at (xstg m ρ c) (wkstg m ρ c) _ _ (hx c) (hk c)) (projV_at (xstg m ρ c) (wvstg m ρ c) _ _ (hx c) (hv c)) (brow b i) ⟨256 + n.val, by omega⟩
  rw [dif_neg (by simp)] at e
  have h : (⟨256 + n.val - 256, by omega⟩ : Fin 256) = n := Fin.ext (by simp)
  exact e.trans ((congrFun (projV_row X Wv c b i) _).trans (congrArg _ h))

include hq hk hv
/-- The quotient of a row, batch and head. -/
theorem ctxAt_at (c : Dev nD) (b : Fin 2) (h : Fin 4) (i : Fin 128) (e : Fin 64) :
    ctxAt m ρ c b h (ix2 i e) = attn X Wq Wk Wv b (gi c i) (hcol h e) := by
  have a := ctx_at (qblk (qP m ρ c) b h) (fun i e => turned X Wq b (gi c i) (hcol h e) * (1 / 8))
    (fun i e => (qblk_at _ b h i e).trans (qP_at m ρ X Wq hx hq c b i (hcol h e)))
    (fun s => sblk m ρ c s b ⟨h.val, by omega⟩) (fun s => sblk m ρ c s b ⟨4 + h.val, by omega⟩)
    (fun s t e => turned X Wk b (gi (own c s) t) (hcol h e)) (fun s t e => projV X Wv b (gi (own c s) t) (hcol h e))
    (fun s t e => (sblk_at m ρ c s b _ t e).trans (kP_at m ρ X Wk Wv hx hk hv (own c s) b t (hcol h e)))
    (fun s t e => (sblk_at m ρ c s b _ t e).trans ((congrArg (fun n => kvP m ρ (own c s) (ix3 0 (brow b t) n)) (Fin.ext (by
      show 64 * (4 + h.val) + e.val = 256 + (64 * h.val + e.val); omega))).trans (vP_at m ρ X Wk Wv hx hk hv (own c s) b t (hcol h e)))) i e
  refine a.trans ?_
  have w : ∀ d : Dev nD, ∀ t, wgt (fun i e => turned X Wq b (gi c i) (hcol h e) * (1 / 8)) (fun t e => turned X Wk b (gi d t) (hcol h e)) i t
      = Real.exp (score (turned X Wq b (gi c i)) (turned X Wk b (gi d t)) h) := fun d t => congrArg Real.exp (score_scaled _ _ h)
  simp only [w]
  rw [sum_slots c fun j => ((Real.exp (score (turned X Wq b (gi c i)) (turned X Wk b j) h) : ℝ) : EReal) * projV X Wv b j (hcol h e),
    sum_slots c fun j => Real.exp (score (turned X Wq b (gi c i)) (turned X Wk b j) h)]
  have hh : (⟨(hcol h e).val / 64, by omega⟩ : Fin 4) = h := Fin.ext (by show (64 * h.val + e.val) / 64 = h.val; omega)
  unfold attn mean
  rw [hh]

include ho
/-- What a device writes. -/
theorem outV_at (c : Dev nD) (b : Fin 2) (i : Fin 128) (d : Fin 512) :
    outV m ρ c (ix3 b i d) = outR X Wq Wk Wv O b (gi c i) d :=
  out_at m ρ c (fun b i n => attn X Wq Wk Wv b (gi c i) n) O (fun b i n => (rows_at m ρ c b i n).trans
    ((ctxAt_at m ρ X Wq Wk Wv hx hq hk hv c b _ i _).trans (congrArg (fun n => attn X Wq Wk Wv b (gi c i) n) (Fin.ext (by
      show 64 * (n.val / 64) + n.val % 64 = n.val; omega))))) (ho c) b i d

end Whole

end Cert.RingAttn

end
-- ==== Proof.ReferenceValue.lean ====
/-
# What the reference computes, as real numbers

The reference's operations in stages, each stage read at an index when its operands are real numbers.
-/
module

public import proofs.«01_k».proof.Proof.Gen.ReferenceIdeal.Run
public import proofs.«01_k».proof.Proof.Model

@[expose] public section

set_option maxRecDepth 16384

noncomputable section

namespace Cert.RingAttn

open Cert.ReferenceIdeal Cert.ReferenceIdeal.Gen
open Idealize.ShloMosaic Idealize.ShloMosaic.TcCoe

/-! ## The stages -/

/-- The angles. -/
def refAng : FVec Ideal S2048x32 .f32 :=
  mulf (broadcastInDim S2048x32 ![0, 1] bcast_S2048x1_S2048x32_0_1 (sitofp .f32 (broadcastInDim S2048x1 ![0] bcast_S2048_S2048x1_0 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))
/-- A function of the angles, over rows, batches and heads. -/
def refSpread (a : FVec Ideal S2048x32 .f32) : FVec Ideal S2x2048x4x64 .f32 :=
  broadcastInDim S2x2048x4x64 ![0, 1, 2, 3] bcast_S1x2048x1x64_S2x2048x4x64_0_1_2_3 (broadcastInDim S1x2048x1x64 ![1, 3] bcast_S2048x64_S1x2048x1x64_1_3
    (shapeCast S2048x64 (broadcastInDim S2048x32x2 ![0, 1] bcast_S2048x32_S2048x32x2_0_1 a) shapeCasts_S2048x32x2_S2048x64))
/-- A projection, by heads. -/
def refProj (x : FVec Ideal S2x2048x512 .f32) (w : FVec Ideal S512x256 .f32) : FVec Ideal S2x2048x4x64 .f32 :=
  shapeCast S2x2048x4x64 (Host.dotGeneral dot_S2x2048x512_S512x256_S2x2048x256_2_0_01_1_n_n none x w) shapeCasts_S2x2048x256_S2x2048x4x64
/-- The columns of a projection by pairs, the pairs' members exchanged, the first with its sign changed. -/
def refMate (p : FVec Ideal S2x2048x4x64 .f32) : FVec Ideal S2x2048x4x64 .f32 :=
  shapeCast S2x2048x4x64 (concatenate S2x2048x4x32x2 4
    [⟨S2x2048x4x32x1, broadcastInDim S2x2048x4x32x1 ![0, 1, 2, 3] bcast_S2x2048x4x32_S2x2048x4x32x1_0_1_2_3 (Host.negf (shapeCast S2x2048x4x32
        (extractStridedSlice S2x2048x4x32x1 ![0, 0, 0, 0, 1] (shapeCast S2x2048x4x32x2 p shapeCasts_S2x2048x4x64_S2x2048x4x32x2)
          slices_S2x2048x4x32x2_S2x2048x4x32x1_0_0_0_0_1) shapeCasts_S2x2048x4x32x1_S2x2048x4x32))⟩,
     ⟨S2x2048x4x32x1, broadcastInDim S2x2048x4x32x1 ![0, 1, 2, 3] bcast_S2x2048x4x32_S2x2048x4x32x1_0_1_2_3 (shapeCast S2x2048x4x32
        (extractStridedSlice S2x2048x4x32x1 ![0, 0, 0, 0, 0] (shapeCast S2x2048x4x32x2 p shapeCasts_S2x2048x4x64_S2x2048x4x32x2)
          slices_S2x2048x4x32x2_S2x2048x4x32x1_0_0_0_0_0) shapeCasts_S2x2048x4x32x1_S2x2048x4x32)⟩]
    concatenates_S2x2048x4x32x1_S2x2048x4x32x1_S2x2048x4x32x2_d4) shapeCasts_S2x2048x4x32x2_S2x2048x4x64
/-- A projection rotated. -/
def refTurn (p : FVec Ideal S2x2048x4x64 .f32) : FVec Ideal S2x2048x4x64 .f32 :=
  addf (mulf p (refSpread (Host.cos refAng))) (mulf (refMate p) (refSpread (Host.sin refAng)))
/-- The scores. -/
def refScore (q k : FVec Ideal S2x2048x4x64 .f32) : FVec Ideal S2x4x2048x2048 .f32 :=
  mulf (Host.dotGeneral dot_S2x2048x4x64_S2x2048x4x64_S2x4x2048x2048_3_3_1_1_02_02 none q k)
    (broadcastInDim S2x4x2048x2048 ![] bcast_S_S2x4x2048x2048 (constant S_ .f32 0x3E000000#32))
/-- A number for each row of scores, over the row. -/
def refOver (r : FVec Ideal S2x4x2048 .f32) : FVec Ideal S2x4x2048x2048 .f32 :=
  broadcastInDim S2x4x2048x2048 ![0, 1, 2, 3] bcast_S2x4x2048x1_S2x4x2048x2048_0_1_2_3 (broadcastInDim S2x4x2048x1 ![0, 1, 2] bcast_S2x4x2048_S2x4x2048x1_0_1_2 r)
/-- The exponentials of the scores less the largest of their row. -/
def refExp (s : FVec Ideal S2x4x2048x2048 .f32) : FVec Ideal S2x4x2048x2048 .f32 :=
  Host.exp (subf s (refOver (Host.reduce FloatOps.maximumf s (constant S_ .f32 0xFF800000#32) reducesTo_S2x4x2048x2048_S2x4x2048_d3 h_S_)))
/-- The weights. -/
def refWeight (e : FVec Ideal S2x4x2048x2048 .f32) : FVec Ideal S2x4x2048x2048 .f32 :=
  Host.divf e (refOver (Host.reduceAdd e (constant S_ .f32 0x00000000#32) reducesTo_S2x4x2048x2048_S2x4x2048_d3 h_S_))
/-- The weighted values. -/
def refCtx (v : FVec Ideal S2x2048x4x64 .f32) (w : FVec Ideal S2x4x2048x2048 .f32) : FVec Ideal S2x2048x256 .f32 :=
  shapeCast S2x2048x256 (transpose S2x2048x4x64 [0, 3, 1, 2] (Host.dotGeneral dot_S2x2048x4x64_S2x4x2048x2048_S2x4x64x2048_1_3_3_2_02_01 none v w)
    transposes_S2x4x64x2048_S2x2048x4x64_0_3_1_2) shapeCasts_S2x2048x4x64_S2x2048x256
/-- The output. -/
def refOut (x : FVec Ideal S2x2048x512 .f32) (wq wk wv : FVec Ideal S512x256 .f32) (wo : FVec Ideal S256x512 .f32) : FVec Ideal S2x2048x512 .f32 :=
  Host.dotGeneral dot_S2x2048x256_S256x512_S2x2048x512_2_0_01_1_n_n none
    (refCtx (refProj x wv) (refWeight (refExp (refScore (refTurn (refProj x wq)) (refTurn (refProj x wk)))))) wo

/-- The generated result is the stages in turn. -/
theorem refOut_eq (m : (ℓ : Loc nD τ sig) → Buf (Elt Ideal) ℓ) (c : Dev nD) :
    Cert.ReferenceIdeal.Value.res_main_v80 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at an index -/

/-- The angles, -/
theorem refAng_at (i : Fin 2048) (e : Fin 32) : refAng (ix2 i e) = (((i.val : ℝ) * freq e.val : ℝ) : EReal) := by
  pointwise [refAng]
  have h2 : ∀ e : Fin 32, IntOp.addi (0#32) (IntOp.muli (2#32) (BitVec.ofNat 32 e.val)) = BitVec.ofNat 32 (e.val * 2) := by decide +kernel
  rw [h2, ofBits_64, ofBits_10000]
  show (((BitVec.ofNat 32 i.val).toInt : ℝ) : EReal)
    * Ideal.div ((1 : ℝ) : EReal) (Ideal.pow ((10000 : ℝ) : EReal) (Ideal.div (((BitVec.ofNat 32 (e.val * 2)).toInt : ℝ) : EReal) ((64 : ℝ) : EReal))) = _
  rw [toInt_small _ (by omega), toInt_small _ (by omega), Int.cast_natCast, Int.cast_natCast, coe_div (by norm_num), Ideal.pow_coe_coe,
    coe_div (show Real.rpow 10000 _ ≠ 0 from (Real.rpow_pos_of_pos (by norm_num) _).ne'), ← EReal.coe_mul, ← freq_eq_inv]

/-- a function of them spread over batches, heads and pairs, -/
theorem refSpread_at (a : FVec Ideal S2048x32 .f32) (b : Fin 2) (i : Fin 2048) (h : Fin 4) (e : Fin 64) :
    refSpread a (ix4 b i h e) = a (ix2 i ⟨e.val / 2, by omega⟩) := by
  pointwise [refSpread]

/-- a projection, -/
theorem refProj_at (x : FVec Ideal S2x2048x512 .f32) (w : FVec Ideal S512x256 .f32) (X : Fin 2 → Fin 2048 → Fin 512 → ℝ) (W : Fin 512 → Fin 256 → ℝ)
    (hx : ∀ b i d, x (ix3 b i d) = ((X b i d : ℝ) : EReal)) (hw : ∀ d n, w (ix2 d n) = ((W d n : ℝ) : EReal))
    (b : Fin 2) (i : Fin 2048) (h : Fin 4) (e : Fin 64) : refProj x w (ix4 b i h e) = ((proj X W b i (hcol h e) : ℝ) : EReal) := by
  pointwise [refProj, hx, hw]
  have h : (⟨h.val * 64 + e.val, by omega⟩ : Fin 256) = hcol h e := Fin.ext (by show h.val * 64 + e.val = 64 * h.val + e.val; omega)
  rw [h]
  exact coe_dot _ _ _

/-- the same with any extended reals for weights, -/
theorem refProjV_at (x : FVec Ideal S2x2048x512 .f32) (w : FVec Ideal S512x256 .f32) (X : Fin 2 → Fin 2048 → Fin 512 → ℝ) (W : Fin 512 → Fin 256 → EReal)
    (hx : ∀ b i d, x (ix3 b i d) = ((X b i d : ℝ) : EReal)) (hw : ∀ d n, w (ix2 d n) = W d n)
    (b : Fin 2) (i : Fin 2048) (h : Fin 4) (e : Fin 64) : refProj x w (ix4 b i h e) = projV X W b i (hcol h e) := by
  pointwise [refProj, hx, hw]
  have h : (⟨h.val * 64 + e.val, by omega⟩ : Fin 256) = hcol h e := Fin.ext (by show h.val * 64 + e.val = 64 * h.val + e.val; omega)
  rw [h]
  rfl

/-- the exchanged pairs, -/
theorem refMate_at (p : FVec Ideal S2x2048x4x64 .f32) (P : Fin 2 → Fin 2048 → Fin 256 → ℝ)
    (hp : ∀ b i h e, p (ix4 b i h e) = ((P b i (hcol h e) : ℝ) : EReal)) (b : Fin 2) (i : Fin 2048) (h : Fin 4) (e : Fin 64) :
    refMate p (ix4 b i h e) = ((sgn (hcol h e) * P b i (mate (hcol h e)) : ℝ) : EReal) := by
  pointwise [refMate, hp]
  have hm : (hcol h e).val % 2 = e.val % 2 := by show (64 * h.val + e.val) % 2 = e.val % 2; omega
  by_cases he : e.val % 2 < 1
  · have h0 : e.val % 2 = 0 := by omega
    have a : hcol h ⟨e.val / 2 * 2 + 1, by omega⟩ = mate (hcol h e) := by
      unfold mate
      rw [if_pos (hm.trans h0)]
      exact Fin.ext (by show 64 * h.val + (e.val / 2 * 2 + 1) = (64 * h.val + e.val + 1) % 256; omega)
    rw [dif_pos he, a, sgn, if_pos (hm.trans h0), ← EReal.coe_neg]
    exact congrArg _ (by ring)
  · have h1 : ¬ (hcol h e).val % 2 = 0 := by omega
    have a : hcol h ⟨e.val / 2 * 2, by omega⟩ = mate (hcol h e) := by
      unfold mate
      rw [if_neg h1]
      exact Fin.ext (by show 64 * h.val + e.val / 2 * 2 = 64 * h.val + e.val - 1; omega)
    rw [dif_neg he, a, sgn, if_neg h1, one_mul]

/-- a rotated projection, -/
theorem refTurn_at (p : FVec Ideal S2x2048x4x64 .f32) (P : Fin 2 → Fin 2048 → Fin 256 → ℝ)
    (hp : ∀ b i h e, p (ix4 b i h e) = ((P b i (hcol h e) : ℝ) : EReal)) (b : Fin 2) (i : Fin 2048) (h : Fin 4) (e : Fin 64) :
    refTurn p (ix4 b i h e) = ((spin (P b i) i.val (hcol h e) : ℝ) : EReal) := by
  have ha : (i.val : ℝ) * freq (e.val / 2) = ang i.val (hcol h e).val := by
    show _ = (i.val : ℝ) * freq ((64 * h.val + e.val) % 64 / 2)
    rw [show (64 * h.val + e.val) % 64 = e.val by omega]
  pointwise [refTurn, hp, refSpread_at, refAng_at]
  rw [refMate_at p P hp]
  rw [ha, Ideal.cos_coe, Ideal.sin_coe, ← EReal.coe_mul, ← EReal.coe_mul, ← EReal.coe_add]
  rfl

/-- the scores, -/
theorem refScore_at (q k : FVec Ideal S2x2048x4x64 .f32) (Q K : Fin 2 → Fin 2048 → Fin 256 → ℝ)
    (hq : ∀ b i h e, q (ix4 b i h e) = ((Q b i (hcol h e) : ℝ) : EReal)) (hk : ∀ b i h e, k (ix4 b i h e) = ((K b i (hcol h e) : ℝ) : EReal))
    (b : Fin 2) (h : Fin 4) (i j : Fin 2048) : refScore q k (ix4 b h i j) = ((score (Q b i) (K b j) h : ℝ) : EReal) := by
  pointwise [refScore, hq, hk]
  rw [coe_dot, ofBits_eighth, ← EReal.coe_mul]
  rfl

/-- their exponentials less a number that each row has, -/
theorem refExp_at (s : FVec Ideal S2x4x2048x2048 .f32) (b : Fin 2) (h : Fin 4) (i : Fin 2048) (S : Fin 2048 → ℝ)
    (hs : ∀ j, s (ix4 b h i j) = ((S j : ℝ) : EReal)) :
    ∃ M : ℝ, ∀ j, refExp s (ix4 b h i j) = ((Real.exp (S j - M) : ℝ) : EReal) := by
  obtain ⟨M, hM⟩ := fold_max_coe S
  refine ⟨M, fun j => ?_⟩
  pointwise [refExp, refOver, hs]
  rw [ofBits_bot, hM, ← EReal.coe_sub, Ideal.exp_coe]

/-- the weights -/
theorem refWeight_at (s : FVec Ideal S2x4x2048x2048 .f32) (b : Fin 2) (h : Fin 4) (i : Fin 2048) (S : Fin 2048 → ℝ)
    (hs : ∀ j, s (ix4 b h i j) = ((S j : ℝ) : EReal)) (hS : (∑ j, S j) ≠ 0) (j : Fin 2048) :
    refWeight s (ix4 b h i j) = ((S j / ∑ l, S l : ℝ) : EReal) := by
  pointwise [refWeight, refOver, hs]
  rw [coe_sum, coe_div hS]

/-- and the weighted values. -/
theorem refCtx_at (v : FVec Ideal S2x2048x4x64 .f32) (w : FVec Ideal S2x4x2048x2048 .f32) (V : Fin 2 → Fin 2048 → Fin 256 → EReal)
    (hv : ∀ b i h e, v (ix4 b i h e) = V b i (hcol h e)) (W : Fin 2 → Fin 4 → Fin 2048 → Fin 2048 → ℝ)
    (hw : ∀ b h i j, w (ix4 b h i j) = ((W b h i j : ℝ) : EReal)) (b : Fin 2) (i : Fin 2048) (n : Fin 256) :
    refCtx v w (ix3 b i n) = ∑ j, V b j n * ((W b ⟨n.val / 64, by omega⟩ i j : ℝ) : EReal) := by
  pointwise [refCtx, hv, hw]
  have h : hcol ⟨n.val / 64, by omega⟩ ⟨n.val % 64, by omega⟩ = n := Fin.ext (by show 64 * (n.val / 64) + n.val % 64 = n.val; omega)
  rw [h]

/-! ## The whole attention -/

section Whole
variable (X : Fin 2 → Fin 2048 → Fin 512 → ℝ) (Wq Wk : Fin 512 → Fin 256 → ℝ) (Wv : Fin 512 → Fin 256 → EReal) (O : Fin 256 → Fin 512 → EReal)

/-- The reference's result. -/
theorem refOut_at (x : FVec Ideal S2x2048x512 .f32) (wq wk wv : FVec Ideal S512x256 .f32) (wo : FVec Ideal S256x512 .f32)
    (hx : ∀ b i d, x (ix3 b i d) = ((X b i d : ℝ) : EReal)) (hq : ∀ d n, wq (ix2 d n) = ((Wq d n : ℝ) : EReal))
    (hk : ∀ d n, wk (ix2 d n) = ((Wk d n : ℝ) : EReal)) (hv : ∀ d n, wv (ix2 d n) = Wv d n)
    (ho : ∀ n d, wo (ix2 n d) = O n d) (b : Fin 2) (i : Fin 2048) (d : Fin 512) :
    refOut x wq wk wv wo (ix3 b i d) = outR X Wq Wk Wv O b i d := by
  have s := refScore_at _ _ _ _ (refTurn_at _ _ (refProj_at x wq X Wq hx hq)) (refTurn_at _ _ (refProj_at x wk X Wk hx hk))
  choose M hM using fun b h i => refExp_at _ b h i _ (s b h i)
  have w := fun b h i => refWeight_at _ b h i _ (hM b h i) (sum_exp_pos _).ne'
  have c := refCtx_at _ _ _ (refProjV_at x wv X Wv hx hv) _ w
  have c' : ∀ n, refCtx (refProj x wv) (refWeight (refExp (refScore (refTurn (refProj x wq)) (refTurn (refProj x wk))))) (ix3 b i n)
      = attn X Wq Wk Wv b i n := fun n => (c b i n).trans (mean_shift _ _ _)
  pointwise [refOut, ho]
  simp only [c']
  rfl

end Whole

end Cert.RingAttn

end
-- ==== Proof.Value.lean ====
/-
# The values

The finite arguments as real numbers, and each device's result as its block of the reference's.
-/
module

public import proofs.«01_k».proof.Proof.Frames
public import proofs.«01_k».proof.Proof.KernelAttention
public import proofs.«01_k».proof.Proof.ReferenceValue
public import Idealize.ShloMosaic.Lib.ReduceAll

@[expose] public section

set_option maxRecDepth 16384

noncomputable section

namespace Cert.RingAttn

open Idealize.ShloMosaic Idealize.ShloMosaic.TcCoe Idealize.SL.Sem

/-- The side conditions of the test for finiteness, over a device's blocks, -/
instance finite_kernel_facts : Cert.Pre_finite_KernelIdeal.Facts where
  bcast_S_S2x128x512 := by decide
  reducesTo_S2x128x512_S_d0_1_2 := by decide
  h_S_ := by decide
  bcast_S_S512x256 := by decide
  reducesTo_S512x256_S_d0_1 := by decide
/-- and over the whole arrays. -/
instance finite_reference_facts : Cert.Pre_finite_ReferenceIdeal.Facts where
  bcast_S_S2x2048x512 := by decide
  reducesTo_S2x2048x512_S_d0_1_2 := by decide
  h_S_ := by decide
  bcast_S_S512x256 := by decide
  reducesTo_S512x256_S_d0_1 := by decide

/-- An array whose absolute values are all below infinity holds real numbers. -/
theorem real_of_lt {s : Shape} (x : FVec Ideal s .f32) (hb : (⟨0, ![]⟩ : Shape).BroadcastsInDim s ![]) (i : s.Idx)
    (h : cmpf .olt (Host.absf x) (broadcastInDim s ![] hb (constant ⟨0, ![]⟩ .f32 0x7F800000#32)) i = 1#1) : x i = (((x i).toReal : ℝ) : EReal) := by
  have h' : Ideal.cmp .olt (max (x i) (-(x i))) (Ideal.ofBits .f32 0x7F800000#32) = 1#1 := h
  rw [ofBits_top] at h'
  have lt : max (x i) (-(x i)) < ⊤ := by
    by_contra hn
    simp [Ideal.cmp, hn] at h'
  refine (EReal.coe_toReal (fun e => ?_) (fun e => ?_)).symm
  · rw [e] at lt; simp at lt
  · rw [e] at lt; simp at lt

/-- Blocks that pass the test hold real numbers, where it looks. -/
theorem real_of_finite (x : FVec Ideal ⟨3, ![2, 128, 512]⟩ .f32) (wq wk wv : FVec Ideal ⟨2, ![512, 256]⟩ .f32) (wo : FVec Ideal ⟨2, ![256, 512]⟩ .f32)
    (h : Cert.Pre_finite_KernelIdeal.fn (F := Ideal) x wq wk wv wo = fun _ => 1#1) :
    (∀ i, x i = (((x i).toReal : ℝ) : EReal)) ∧ (∀ i, wq i = (((wq i).toReal : ℝ) : EReal)) ∧ (∀ i, wk i = (((wk i).toReal : ℝ) : EReal)) := by
  have h0 := congrFun h (fun a => a.elim0)
  haveI : Subsingleton (Cert.Pre_finite_KernelIdeal.S_.Idx) := ⟨fun a b => funext fun k => k.elim0⟩
  obtain ⟨h1, e2⟩ := IntOp.andi_eq_one.1 h0
  obtain ⟨e0, e1⟩ := IntOp.andi_eq_one.1 h1
  exact ⟨fun i => real_of_lt x _ i (Host.reduce_andi_all _ _ _ _ _ e0 i), fun i => real_of_lt wq _ i (Host.reduce_andi_all _ _ _ _ _ e1 i),
    fun i => real_of_lt wk _ i (Host.reduce_andi_all _ _ _ _ _ e2 i)⟩

section Staged
open Cert.KernelIdeal Cert.KernelIdeal.Gen
variable (m : (ℓ : Loc nD τ sig) → Buf (Elt Ideal) ℓ) (ρ : Dev nD → PrngReg)
/-- The staging buffers hold the arguments: the rows, -/
theorem xstg_eq (c : Dev nD) : xstg m ρ c = m ((c.tc : Thread nD τ).loc main_arg0) := by
  unfold xstg
  funext i
  refine congrArg (m ((c.tc : Thread nD τ).loc main_arg0)) (funext fun a => Fin.ext ?_)
  fin_cases a <;> exact (Nat.zero_add _).trans (Nat.one_mul _)
/-- the weights of the queries, -/
theorem wqstg_eq (c : Dev nD) : wqstg m ρ c = m ((c.tc : Thread nD τ).loc main_arg1) := by
  unfold wqstg
  funext i
  refine congrArg (m ((c.tc : Thread nD τ).loc main_arg1)) (funext fun a => Fin.ext ?_)
  fin_cases a <;> exact (Nat.zero_add _).trans (Nat.one_mul _)
/-- of the keys -/
theorem wkstg_eq (c : Dev nD) : wkstg m ρ c = m ((c.tc : Thread nD τ).loc main_arg2) := by
  unfold wkstg
  funext i
  refine congrArg (m ((c.tc : Thread nD τ).loc main_arg2)) (funext fun a => Fin.ext ?_)
  fin_cases a <;> exact (Nat.zero_add _).trans (Nat.one_mul _)
/-- and of the values, -/
theorem wvstg_eq (c : Dev nD) : wvstg m ρ c = m ((c.tc : Thread nD τ).loc main_arg3) := by
  unfold wvstg
  funext i
  refine congrArg (m ((c.tc : Thread nD τ).loc main_arg3)) (funext fun a => Fin.ext ?_)
  fin_cases a <;> exact (Nat.zero_add _).trans (Nat.one_mul _)
/-- and the output matrix. -/
theorem wostg_eq (c : Dev nD) : wostg m ρ c = m ((c.tc : Thread nD τ).loc main_arg4) := by
  unfold wostg
  funext i
  refine congrArg (m ((c.tc : Thread nD τ).loc main_arg4)) (funext fun a => Fin.ext ?_)
  fin_cases a <;> exact (Nat.zero_add _).trans (Nat.one_mul _)
end Staged

/-- Where an entry of a device's block lies in the whole array. -/
theorem block_at {α : Type} (c : Fin 16) (v : (⟨3, ![2, 2048, 512]⟩ : Shape).Idx → α) (b : Fin 2) (i : Fin 128) (d : Fin 512) :
    Layout.block ⟨3, ![2, 128, 512]⟩ ⟨3, ![2, 2048, 512]⟩ 1 16 c v (by decide) (ix3 b i d) = v (ix3 b (gi c i) d) := by
  refine congrArg v ?_
  funext a
  refine Fin.ext ?_
  fin_cases a
  · rfl
  · show c.val * 128 + i.val = 128 * c.val + i.val
    omega
  · rfl

open Cert in
/-- Each device's result is its block of the reference's. -/
theorem values (m : (ℓ : Loc KernelIdeal.nD KernelIdeal.τ KernelIdeal.sig) → Buf (Elt Ideal) ℓ) (ρ : Dev KernelIdeal.nD → PrngReg)
    (x : FVec Ideal ⟨3, ![2, 2048, 512]⟩ .f32) (wq wk wv : FVec Ideal ⟨2, ![512, 256]⟩ .f32) (wo : FVec Ideal ⟨2, ![256, 512]⟩ .f32)
    (hf : Pre_KernelIdeal_finite_KernelIdeal m)
    (h0 : ∀ c : Dev KernelIdeal.nD, m ((c.tc : Thread KernelIdeal.nD KernelIdeal.τ).loc KernelIdeal.main_arg0)
      = Layout.block ⟨3, ![2, 128, 512]⟩ ⟨3, ![2, 2048, 512]⟩ 1 16 c x)
    (h1 : ∀ c : Dev KernelIdeal.nD, m ((c.tc : Thread KernelIdeal.nD KernelIdeal.τ).loc KernelIdeal.main_arg1) = wq)
    (h2 : ∀ c : Dev KernelIdeal.nD, m ((c.tc : Thread KernelIdeal.nD KernelIdeal.τ).loc KernelIdeal.main_arg2) = wk)
    (h3 : ∀ c : Dev KernelIdeal.nD, m ((c.tc : Thread KernelIdeal.nD KernelIdeal.τ).loc KernelIdeal.main_arg3) = wv)
    (h4 : ∀ c : Dev KernelIdeal.nD, m ((c.tc : Thread KernelIdeal.nD KernelIdeal.τ).loc KernelIdeal.main_arg4) = wo) (c : Dev KernelIdeal.nD) :
    outV m ρ c = Layout.block ⟨3, ![2, 128, 512]⟩ ⟨3, ![2, 2048, 512]⟩ 1 16 c (refOut x wq wk wv wo) := by
  have fin := fun c => real_of_finite _ _ _ _ _ (hf c)
  have fx : ∀ b j d, x (ix3 b j d) = (((x (ix3 b j d)).toReal : ℝ) : EReal) := by
    intro b j d
    have e : (ix3 b j d : (⟨3, ![2, 2048, 512]⟩ : Shape).Idx) = ix3 b (gi ⟨j.val / 128, by have e : KernelIdeal.nD = 16 := rfl; omega⟩ ⟨j.val % 128, by omega⟩) d := by
      refine congrArg (fun k => (ix3 b k d : (⟨3, ![2, 2048, 512]⟩ : Shape).Idx)) (Fin.ext ?_)
      show j.val = 128 * (j.val / 128) + j.val % 128
      omega
    have f := (fin ⟨j.val / 128, by have e : KernelIdeal.nD = 16 := rfl; omega⟩).1 (ix3 b ⟨j.val % 128, by omega⟩ d)
    rw [h0, block_at, ← e] at f
    exact f
  have fq : ∀ d n, wq (ix2 d n) = (((wq (ix2 d n)).toReal : ℝ) : EReal) := by
    intro d n; have f := (fin c).2.1 (ix2 d n); rw [h1] at f; exact f
  have fk : ∀ d n, wk (ix2 d n) = (((wk (ix2 d n)).toReal : ℝ) : EReal) := by
    intro d n; have f := (fin c).2.2 (ix2 d n); rw [h2] at f; exact f
  have K := outV_at m ρ (fun b j d => (x (ix3 b j d)).toReal) (fun d n => (wq (ix2 d n)).toReal) (fun d n => (wk (ix2 d n)).toReal)
    (fun d n => wv (ix2 d n)) (fun n d => wo (ix2 n d))
    (fun c b i d => by rw [xstg_eq, h0 c, block_at]; exact fx b (gi c i) d)
    (fun c d n => by rw [wqstg_eq, h1 c]; exact fq d n) (fun c d n => by rw [wkstg_eq, h2 c]; exact fk d n)
    (fun c d n => by rw [wvstg_eq, h3 c]) (fun c n d => by rw [wostg_eq, h4 c]) c
  have R := refOut_at _ _ _ (fun d n => wv (ix2 d n)) (fun n d => wo (ix2 n d)) x wq wk wv wo fx fq fk (fun _ _ => rfl) (fun _ _ => rfl)
  funext j
  rw [eq_ix3 j]
  exact (K _ _ _).trans ((R _ _ _).symm.trans (block_at c (refOut x wq wk wv wo) _ _ _).symm)

open Cert in
/-- Over the reals, on finite rows and finite weights of queries and keys, each device of the kernel ends with its block of the reference's result. -/
theorem values_agree : algebraic_KernelIdeal_ReferenceIdeal_pre_finite_KernelIdeal := by
  intro m ρ m' ρ' hf hm
  refine ⟨refOut (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg3))
    (m' (((0 : Dev ReferenceIdeal.nD).tc : Thread ReferenceIdeal.nD ReferenceIdeal.τ).loc ReferenceIdeal.main_arg4)), ?_, ?_⟩
  · exact (θ_run KernelIdeal.defs _ _).mono (fun r h c => ⟨(h.1 c).1.trans (values m ρ _ _ _ _ _ hf (fun c => (hm c).1) (fun c => (hm c).2.1)
      (fun c => (hm c).2.2.1) (fun c => (hm c).2.2.2.1) (fun c => (hm c).2.2.2.2) c), (h.1 c).2⟩) (run_kernel (F := Ideal) m ρ)
  · exact (θ_run ReferenceIdeal.defs _ _).mono (fun r h => ⟨((h 0).1).trans (refOut_eq m' 0), (h 0).2⟩) (ReferenceIdeal.Value.run (F := Ideal) m' ρ')

end Cert.RingAttn

end
-- ==== Proof.lean ====
/-
# The certificate

The claims of the certificate, each proved in the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.RingAttn.finite_kernel_facts, Cert.RingAttn.finite_reference_facts,
  Cert.RingAttn.frame_kernel, Cert.RingAttn.frame_ideal, Cert.RingAttn.frame_ideal_finite,
  Cert.RingAttn.frame_reference, Cert.RingAttn.frame_reference_finite,
  Cert.RingAttn.constant_kept, Cert.RingAttn.values_agree⟩

end Cert.Proof

end
